-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_hw" .f32 0x3CA72F05#32 ((1 / 49 : ℝ) : EReal)
  ∧ IdealRules.named_const.Statement Cert.KernelIdeal.κ "inv_n" .f32 0x3951B717#32 ((1 / 5000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5000x256x7x7 : Shape := ⟨4, ![5000, 256, 7, 7]⟩
abbrev S1024x256 : Shape := ⟨2, ![1024, 256]⟩
abbrev S1024 : Shape := ⟨1, ![1024]⟩
abbrev S81x1024 : Shape := ⟨2, ![81, 1024]⟩
abbrev S81 : Shape := ⟨1, ![81]⟩
abbrev S324x1024 : Shape := ⟨2, ![324, 1024]⟩
abbrev S324 : Shape := ⟨1, ![324]⟩
abbrev S_ : Shape := ⟨0, ![]⟩

class Facts : Prop where
  bcast_S_S5000x256x7x7 : S_.BroadcastsInDim S5000x256x7x7 (![] : Fin 0 → Fin S5000x256x7x7.rank)
  reducesTo_S5000x256x7x7_S_d0_1_2_3 : S5000x256x7x7.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S5000x256x7x7 .f32) (main_arg1 : FVec F S1024x256 .f32) (main_arg2 : FVec F S1024 .f32) (main_arg3 : FVec F S1024 .f32) (main_arg4 : FVec F S1024 .f32) (main_arg5 : FVec F S81x1024 .f32) (main_arg6 : FVec F S81 .f32) (main_arg7 : FVec F S324x1024 .f32) (main_arg8 : FVec F S324 .f32) : IVec S_ 1 :=
  let main_v0 : FVec F S5000x256x7x7 .f32 := Host.absf main_arg0
  let main_cst : FVec F S_ .f32 := constant S_ .f32 0x7F800000#32
  let main_v1 : FVec F S5000x256x7x7 .f32 := broadcastInDim S5000x256x7x7 ![] bcast_S_S5000x256x7x7 main_cst
  let main_v2 : IVec S5000x256x7x7 1 := cmpf .olt main_v0 main_v1
  let main_c : IVec S_ 1 := constantI S_ 1 1#1
  let main_v3 : IVec S_ 1 := (fun x v => Host.reduce IntOp.andi x v reducesTo_S5000x256x7x7_S_d0_1_2_3 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S5000x256x7x7 : Shape := ⟨4, ![5000, 256, 7, 7]⟩
abbrev S1024x256 : Shape := ⟨2, ![1024, 256]⟩
abbrev S1024 : Shape := ⟨1, ![1024]⟩
abbrev S81x1024 : Shape := ⟨2, ![81, 1024]⟩
abbrev S81 : Shape := ⟨1, ![81]⟩
abbrev S324x1024 : Shape := ⟨2, ![324, 1024]⟩
abbrev S324 : Shape := ⟨1, ![324]⟩
abbrev S7x7x5000x256 : Shape := ⟨4, ![7, 7, 5000, 256]⟩
abbrev S49x5000x256 : Shape := ⟨3, ![49, 5000, 256]⟩
abbrev S1x1024 : Shape := ⟨2, ![1, 1024]⟩
abbrev S1x81 : Shape := ⟨2, ![1, 81]⟩
abbrev S1x324 : Shape := ⟨2, ![1, 324]⟩
abbrev S5000x81 : Shape := ⟨2, ![5000, 81]⟩
abbrev S5000x324 : Shape := ⟨2, ![5000, 324]⟩
abbrev S49x200x256 : Shape := ⟨3, ![49, 200, 256]⟩
abbrev S1000x81 : Shape := ⟨2, ![1000, 81]⟩
abbrev S1000x324 : Shape := ⟨2, ![1000, 324]⟩
abbrev S5000x1024 : Shape := ⟨2, ![5000, 1024]⟩
abbrev S2x1024 : Shape := ⟨2, ![2, 1024]⟩
abbrev S200x256 : Shape := ⟨2, ![200, 256]⟩
abbrev S200x1024 : Shape := ⟨2, ![200, 1024]⟩
abbrev S1000x1024 : Shape := ⟨2, ![1000, 1024]⟩

abbrev nBuf : Space → Nat
  | .hbm => 17
  | .vmem => 15
  | .smem => 0
  | _ => 0

abbrev bufTy : (tb : Table) → Fin (tcTables nBuf tb) → BufTy
  | .hbm, ⟨0, _⟩ => ⟨S5000x256x7x7, .f32⟩
  | .hbm, ⟨1, _⟩ => ⟨S1024x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S81x1024, .f32⟩
  | .hbm, ⟨6, _⟩ => ⟨S81, .f32⟩
  | .hbm, ⟨7, _⟩ => ⟨S324x1024, .f32⟩
  | .hbm, ⟨8, _⟩ => ⟨S324, .f32⟩
  | .hbm, ⟨9, _⟩ => ⟨S7x7x5000x256, .f32⟩
  | .hbm, ⟨10, _⟩ => ⟨S49x5000x256, .f32⟩
  | .hbm, ⟨11, _⟩ => ⟨S1x1024, .f32⟩
  | .hbm, ⟨12, _⟩ => ⟨S1x1024, .f32⟩
  | .hbm, ⟨13, _⟩ => ⟨S1x81, .f32⟩
  | .hbm, ⟨14, _⟩ => ⟨S1x324, .f32⟩
  | .hbm, ⟨15, _⟩ => ⟨S5000x81, .f32⟩
  | .hbm, ⟨16, _⟩ => ⟨S5000x324, .f32⟩
  | .local _ .vmem, ⟨0, _⟩ => ⟨S49x200x256, .f32⟩
  | .local _ .vmem, ⟨1, _⟩ => ⟨S49x200x256, .f32⟩
  | .local _ .vmem, ⟨2, _⟩ => ⟨S1024x256, .f32⟩
  | .local _ .vmem, ⟨3, _⟩ => ⟨S1x1024, .f32⟩
  | .local _ .vmem, ⟨4, _⟩ => ⟨S1x1024, .f32⟩
  | .local _ .vmem, ⟨5, _⟩ => ⟨S81x1024, .f32⟩
  | .local _ .vmem, ⟨6, _⟩ => ⟨S1x81, .f32⟩
  | .local _ .vmem, ⟨7, _⟩ => ⟨S324x1024, .f32⟩
  | .local _ .vmem, ⟨8, _⟩ => ⟨S1x324, .f32⟩
  | .local _ .vmem, ⟨9, _⟩ => ⟨S1000x81, .f32⟩
  | .local _ .vmem, ⟨10, _⟩ => ⟨S1000x81, .f32⟩
  | .local _ .vmem, ⟨11, _⟩ => ⟨S1000x324, .f32⟩
  | .local _ .vmem, ⟨12, _⟩ => ⟨S1000x324, .f32⟩
  | .local _ .vmem, ⟨13, _⟩ => ⟨S5000x1024, .f32⟩
  | .local _ .vmem, ⟨14, _⟩ => ⟨S2x1024, .f32⟩
  | _, _ => ⟨S5000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c200_i32 : BitVec 32 := 200#32
  let v13 : BitVec 32 := Scalar.muli arg0 c200_i32
  let v14 : Index := Scalar.indexCast v13
  let c0_8 : Index := 0#32
  ![v14.toNat, 0]
def k0_cond4 (i : grid0.Coords) : BitVec 1 :=
  let arg0 : BitVec 32 := BitVec.ofNat 32 (i 0).val
  let c25_i32_0 : BitVec 32 := 25#32
  let v3 : BitVec 1 := Scalar.cmpi .sge arg0 c25_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c25_i32_2 : BitVec 32 := 25#32
  let v6 : BitVec 32 := Scalar.subi arg0 c25_i32_2
  let c1000_i32 : BitVec 32 := 1000#32
  let v25 : BitVec 32 := Scalar.muli v6 c1000_i32
  let v26 : Index := Scalar.indexCast v25
  let c0_11 : Index := 0#32
  ![v26.toNat, 0]
def cc0_transform_0 (i : grid0.Coords) : Fin 3 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S49x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S81x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x81 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S324x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x324 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x81 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x324 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_hw" => some ((1 / 49 : ℝ) : EReal)
  | "inv_n" => some ((1 / 5000 : ℝ) : EReal)
  | _ => none
-- ==== ReferenceIdeal.lean ====
abbrev S5000x256x7x7 : Shape := ⟨4, ![5000, 256, 7, 7]⟩
abbrev S1024x256 : Shape := ⟨2, ![1024, 256]⟩
abbrev S1024 : Shape := ⟨1, ![1024]⟩
abbrev S81x1024 : Shape := ⟨2, ![81, 1024]⟩
abbrev S81 : Shape := ⟨1, ![81]⟩
abbrev S324x1024 : Shape := ⟨2, ![324, 1024]⟩
abbrev S324 : Shape := ⟨1, ![324]⟩
abbrev S_ : Shape := ⟨0, ![]⟩
abbrev S5000x256 : Shape := ⟨2, ![5000, 256]⟩
abbrev S256x1024 : Shape := ⟨2, ![256, 1024]⟩
abbrev S5000x1024 : Shape := ⟨2, ![5000, 1024]⟩
abbrev S1x1024 : Shape := ⟨2, ![1, 1024]⟩
abbrev S1024x81 : Shape := ⟨2, ![1024, 81]⟩
abbrev S5000x81 : Shape := ⟨2, ![5000, 81]⟩
abbrev S1x81 : Shape := ⟨2, ![1, 81]⟩
abbrev S1024x324 : Shape := ⟨2, ![1024, 324]⟩
abbrev S5000x324 : Shape := ⟨2, ![5000, 324]⟩
abbrev S1x324 : Shape := ⟨2, ![1, 324]⟩

abbrev nBuf : Space → Nat
  | .hbm => 76
  | .vmem => 0
  | .smem => 0
  | _ => 0

abbrev bufTy : (tb : Table) → Fin (tcTables nBuf tb) → BufTy
  | .hbm, ⟨0, _⟩ => ⟨S5000x256x7x7, .f32⟩
  | .hbm, ⟨1, _⟩ => ⟨S1024x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S81x1024, .f32⟩
  | .hbm, ⟨6, _⟩ => ⟨S81, .f32⟩
  | .hbm, ⟨7, _⟩ => ⟨S324x1024, .f32⟩
  | .hbm, ⟨8, _⟩ => ⟨S324, .f32⟩
  | .hbm, ⟨9, _⟩ => ⟨S_, .f32⟩
  | .hbm, ⟨10, _⟩ => ⟨S5000x256, .f32⟩
  | .hbm, ⟨11, _⟩ => ⟨S_, .f32⟩
  | .hbm, ⟨12, _⟩ => ⟨S5000x256, .f32⟩
  | .hbm, ⟨13, _⟩ => ⟨S5000x256, .f32⟩
  | .hbm, ⟨14, _⟩ => ⟨S256x1024, .f32⟩
  | .hbm, ⟨15, _⟩ => ⟨S5000x1024, .f32⟩
  | .hbm, ⟨16, _⟩ => ⟨S1x1024, .f32⟩
  | .hbm, ⟨17, _⟩ => ⟨S5000x1024, .f32⟩
  | .hbm, ⟨18, _⟩ => ⟨S5000x1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S5000x1024, .f32⟩
  | .hbm, ⟨32, _⟩ => ⟨S5000x1024, .f32⟩
  | .hbm, ⟨33, _⟩ => ⟨S5000x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1x1024, .f32⟩
  | .hbm, ⟨48, _⟩ => ⟨S5000x1024, .f32⟩
  | .hbm, ⟨49, _⟩ => ⟨S5000x1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S5000x1024, .f32⟩
  | .hbm, ⟨56, _⟩ => ⟨S5000x1024, .f32⟩
  | .hbm, ⟨57, _⟩ => ⟨S1x1024, .f32⟩
  | .hbm, ⟨58, _⟩ => ⟨S5000x1024, .f32⟩
  | .hbm, ⟨59, _⟩ => ⟨S5000x1024, .f32⟩
  | .hbm, ⟨60, _⟩ => ⟨S1x1024, .f32⟩
  | .hbm, ⟨61, _⟩ => ⟨S5000x1024, .f32⟩
  | .hbm, ⟨62, _⟩ => ⟨S5000x1024, .f32⟩
  | .hbm, ⟨63, _⟩ => ⟨S_, .f32⟩
  | .hbm, ⟨64, _⟩ => ⟨S5000x1024, .f32⟩
  | .hbm, ⟨65, _⟩ => ⟨S5000x1024, .f32⟩
  | .hbm, ⟨66, _⟩ => ⟨S1024x81, .f32⟩
  | .hbm, ⟨67, _⟩ => ⟨S5000x81, .f32⟩
  | .hbm, ⟨68, _⟩ => ⟨S1x81, .f32⟩
  | .hbm, ⟨69, _⟩ => ⟨S5000x81, .f32⟩
  | .hbm, ⟨70, _⟩ => ⟨S5000x81, .f32⟩
  | .hbm, ⟨71, _⟩ => ⟨S1024x324, .f32⟩
  | .hbm, ⟨72, _⟩ => ⟨S5000x324, .f32⟩
  | .hbm, ⟨73, _⟩ => ⟨S1x324, .f32⟩
  | .hbm, ⟨74, _⟩ => ⟨S5000x324, .f32⟩
  | .hbm, ⟨75, _⟩ => ⟨S5000x324, .f32⟩
  | _, _ => ⟨S5000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_cst_3 : Ref sig .tc := ⟨.hbm, 41, rfl⟩
abbrev main_call0_v12 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call1_cst : Ref sig .tc := ⟨.hbm, 63, rfl⟩
abbrev main_call1_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩

abbrev nD : Nat := 1
abbrev τ : Topo := Topo.v7x

variable {F : FTy → Type} [FloatOps F]
-- ==== Proof.Runs.lean ====
/- The kernel body of the idealized program, run once per branch: what one grid point reads, what it leaves. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The branch conditions over the grid -/

/-- The hidden layer is computed (first pass). -/
abbrev pass1 (i : grid0.Coords) : Prop := k0_cond1 i = 1#1
/-- The statistics are set rather than added to. -/
abbrev first (i : grid0.Coords) : Prop :=
  (Scalar.cmpi .ne (Scalar.extui (Scalar.cmpi .eq (BitVec.ofNat 32 (i 0).val) 0#32)) 0#32) = 1#1
/-- The statistics are added to. -/
abbrev later (i : grid0.Coords) : Prop :=
  (Scalar.cmpi .ne (Scalar.extui (Scalar.cmpi .sgt (BitVec.ofNat 32 (i 0).val) 0#32)) 0#32) = 1#1
/-- The normalization and the two heads are computed (second pass). -/
abbrev pass2 (i : grid0.Coords) : Prop := k0_cond4 i = 1#1

/-- The first pass is the points below 25. -/
theorem pass1_iff : ∀ t : Fin cfg0.N, pass1 (grid0.coords t) ↔ t.val < 25 :=
  (by decide +kernel : ∀ t : Fin grid0.N, pass1 (grid0.coords t) ↔ t.val < 25)
/-- The statistics are set at point 0. -/
theorem first_iff : ∀ t : Fin cfg0.N, first (grid0.coords t) ↔ t.val = 0 :=
  (by decide +kernel : ∀ t : Fin grid0.N, first (grid0.coords t) ↔ t.val = 0)
/-- They are added to at the points after it. -/
theorem later_iff : ∀ t : Fin cfg0.N, later (grid0.coords t) ↔ 1 ≤ t.val :=
  (by decide +kernel : ∀ t : Fin grid0.N, later (grid0.coords t) ↔ 1 ≤ t.val)
/-- The second pass is the points from 25 on. -/
theorem pass2_iff : ∀ t : Fin cfg0.N, pass2 (grid0.coords t) ↔ 25 ≤ t.val :=
  (by decide +kernel : ∀ t : Fin grid0.N, pass2 (grid0.coords t) ↔ 25 ≤ t.val)

/-! ## The two scratch buffers -/

/-- Row 0 of the statistics scratch: the running sum of the hidden layer. -/
abbrev row0 : Rect S2x1024 := Rect.unit (s := S2x1024) ![0, 0] S1x1024.size inb_S2x1024_S1x1024_0_0
/-- Row 1 of the statistics scratch: the running sum of its squares. -/
abbrev row1 : Rect S2x1024 := Rect.unit (s := S2x1024) ![1, 0] S1x1024.size inb_S2x1024_S1x1024_1_0

/-- The rows a second-pass point reads of the hidden-layer scratch. -/
abbrev hRect (i : grid0.Coords) (hi : pass2 i) : Rect S5000x1024 :=
  Rect.unit (s := S5000x1024) (k0_off2 i) S1000x1024.size (k0_off2_inb i hi)

/-- `d'` is `d` with rows `200 t ..< 200 t + 200` replaced by the hidden layer of the block `x0`. -/
structure Filled (t : ℕ) (x0 : Vec F S49x200x256 .f32) (x1 : Vec F S1024x256 .f32)
    (d d' : Vec F S5000x1024 .f32) : Prop where
  /-- the block's rows -/
  new : ∀ (y : S5000x1024.Idx) (x : S200x1024.Idx), (y (0 : Fin 2)).val = 200 * t + (x (0 : Fin 2)).val →
    (y (1 : Fin 2)).val = (x (1 : Fin 2)).val → d' y = k0_pay2 x0 x1 x
  /-- every other row -/
  old : ∀ y : S5000x1024.Idx, (y (0 : Fin 2)).val < 200 * t ∨ 200 * t + 200 ≤ (y (0 : Fin 2)).val → d' y = d y

/-- One stored block of 200 rows read back: the block on its rows, the earlier contents elsewhere. -/
theorem filled_read (v : View sig .tc .vmem S5000x1024 .f32) (f : v.ty.Contents (Elt F)) (i : grid0.Coords)
    (hi : pass1 i) (x0 : Vec F S49x200x256 .f32) (x1 : Vec F S1024x256 .f32) :
    Filled (i 0).val x0 x1 (v.read (Elt F) f) (v.read (Elt F) (v.writes (Elt F) f
      [(⟨Rect.unit (s := S5000x1024) (k0_off1 i) S200x1024.size (k0_off1_inb i hi), k0_pay2 x0 x1⟩ :
        View.Piece (Elt F) S5000x1024 .f32)])) where
  new y x h0 h1 := View.read_writes_cons_rows_of_mem v f (k0_off1_inb i hi) _ _ y x (k0_off1_eq i) h0 h1
  old y h := View.read_writes_cons_rows_of_not_mem v f (k0_off1_inb i hi) _ _ y (k0_off1_eq i) rfl h

/-- Both rows of the statistics scratch stored, row 0 first: each reads back what was stored there. -/
theorem stats_read (v : View sig .tc .vmem S2x1024 .f32) (f : v.ty.Contents (Elt F)) (w0 w1 : Vec F S1x1024 .f32) :
    View.ld (v.read (Elt F) (v.writes (Elt F) f [(⟨row1, w1⟩ : View.Piece (Elt F) S2x1024 .f32), ⟨row0, w0⟩])) row0 = w0
      ∧ View.ld (v.read (Elt F) (v.writes (Elt F) f [(⟨row1, w1⟩ : View.Piece (Elt F) S2x1024 .f32), ⟨row0, w0⟩])) row1
        = w1 := by
  refine ⟨funext fun x => ?_, funext fun x => View.read_writes_cons_emb v f row1 w1 _ x⟩
  have hx : (x (0 : Fin 2)).val < 1 := (x (0 : Fin 2)).isLt
  refine (View.read_writes_cons_rows_of_not_mem (d := ![2, 1024]) (o := 1) (W := 1) v f inb_S2x1024_S1x1024_1_0 w1 _ (row0.emb x) rfl rfl
    (Or.inl ?_)).trans (View.read_writes_cons_emb v f row0 w0 _ x)
  show 0 + 1 * (x (0 : Fin 2)).val < 1
  omega

/-- A load of a whole staging buffer reads its contents. -/
theorem load_all {S : Shape} {a : Memref sig .tc .vmem S .f32} (h : a.IsWhole) (x : Vec F S .f32)
    {off : Fin S.rank → ℕ} (h0 : off = fun _ => 0) (inb : ∀ k, off k + S.size k ≤ S.size k) :
    a.view.readAt (Elt F) (Rect.unit off S.size inb).toLoadRect (h.unread x) = x := by
  rw [View.readAt_eq_ld, h.read_unread, View.ld_unit_zero h0]

/-- A load of part of a whole buffer reads that part of its contents. -/
theorem load_part {S : Shape} {a : Memref sig .tc .vmem S .f32} (h : a.IsWhole) (x : Vec F S .f32) (r : Rect S) :
    a.view.readAt (Elt F) r.toLoadRect (h.unread x) = View.ld x r := by
  rw [View.readAt_eq_ld, h.read_unread]

/-- The zero offsets of rank 2, spelt as a literal. -/
theorem zero2 : (![0, 0] : Fin 2 → ℕ) = fun _ => 0 := by decide
/-- The zero offsets of rank 3, spelt as a literal. -/
theorem zero3 : (![0, 0, 0] : Fin 3 → ℕ) = fun _ => 0 := by decide

/-! ## The three branches -/

set_option maxHeartbeats 4000000 in
/-- Point 0: the block's hidden layer goes to its rows, the statistics are set to the block's sums. -/
theorem run_first (c : Dev nD) (i : grid0.Coords) (a1 : Memref sig .tc .vmem S49x200x256 .f32) (h1 : a1.IsWhole) (a2 : Memref sig .tc .vmem S1024x256 .f32) (h2 : a2.IsWhole) (a3 : Memref sig .tc .vmem S1x1024 .f32) (h3 : a3.IsWhole) (a4 : Memref sig .tc .vmem S1x1024 .f32) (h4 : a4.IsWhole) (a5 : Memref sig .tc .vmem S81x1024 .f32) (h5 : a5.IsWhole) (a6 : Memref sig .tc .vmem S1x81 .f32) (h6 : a6.IsWhole) (a7 : Memref sig .tc .vmem S324x1024 .f32) (h7 : a7.IsWhole) (a8 : Memref sig .tc .vmem S1x324 .f32) (h8 : a8.IsWhole) (a9 : Memref sig .tc .vmem S1000x81 .f32) (h9 : a9.IsWhole) (a10 : Memref sig .tc .vmem S1000x324 .f32) (h10 : a10.IsWhole) (a11 : Memref sig .tc .vmem S5000x1024 .f32) (h11 : a11.IsWhole) (a12 : Memref sig .tc .vmem S2x1024 .f32) (h12 : a12.IsWhole)
    (c1 : pass1 i) (c2 : first i) (c3 : ¬later i) (c4 : ¬pass2 i)
    (x0 : Vec F S49x200x256 .f32) (x1 : Vec F S1024x256 .f32) (d11 : Vec F S5000x1024 .f32) (d12 : Vec F S2x1024 .f32)
    (E : Set ℕ) (K : PUnit → sProp 𝕄) :
    iprop(owns (c : Thread nD τ) a1 fullShare x0 ∗ owns (c : Thread nD τ) a2 fullShare x1 ∗ owns (c : Thread nD τ) a11 fullShare d11 ∗ owns (c : Thread nD τ) a12 fullShare d12
      ∗ (∀ e11 e12, iprop(⌜Filled (i 0).val x0 x1 d11 e11 ∧ View.ld e12 row0 = k0_pay5 x0 x1 ∧ View.ld e12 row1 = k0_pay6 x0 x1⌝
        ∗ owns (c : Thread nD τ) a1 fullShare x0 ∗ owns (c : Thread nD τ) a2 fullShare x1 ∗ owns (c : Thread nD τ) a11 fullShare e11 ∗ owns (c : Thread nD τ) a12 fullShare e12) -∗ K ⟨⟩))
      ⊢ wp frame (wpE (defs₀ (F := F)) Variants.none c none) E (cc0__head_kernel i a1 h1 a2 h2 a3 h3 a4 h4 a5 h5 a6 h6 a7 h7 a8 h8 a9 h9 a10 h10 a11 h11 a12 h12) K := by
  simp only [cc0__head_kernel_eq_skeleton]; unfold cc0__head_kernel_skel
  unfold owns
  iintro ⟨⟨%f1, %hf1, H1⟩, ⟨%f2, %hf2, H2⟩, ⟨%f11, %hf11, H11⟩, ⟨%f12, %hf12, H12⟩, Hk⟩
  obtain rfl := h1.eq_unread hf1
  obtain rfl := h2.eq_unread hf2
  obtain rfl := h11.eq_unread hf11
  obtain rfl := h12.eq_unread hf12
  sl_exec (disch := first | sl_exact c1 | sl_exact c2 | sl_exact c3 | sl_exact c4)
  sl_step
  iapply Hk
  isplitr
  rotate_left
  isplitl [H1]
  · iexists _; isplitr; · ipureintro; exact h1.read_unread _
    iexact H1
  isplitl [H2]
  · iexists _; isplitr; · ipureintro; exact h2.read_unread _
    iexact H2
  isplitl [H11]
  · iexists _; isplitr; swap; · iexact H11
    ipureintro; rfl
  · iexists _; isplitr; swap; · iexact H12
    ipureintro; rfl
  ipureintro
  rw [load_all h1 x0 zero3, load_all h2 x1 zero2]
  refine ⟨?_, stats_read (F := F) _ _ _ _⟩
  have h := filled_read a11.view (h11.unread d11) i c1 x0 x1
  rwa [h11.read_unread] at h

set_option maxHeartbeats 4000000 in
/-- A later point of the first pass: the block's hidden layer goes to its rows, the block's sums are added. -/
theorem run_later (c : Dev nD) (i : grid0.Coords) (a1 : Memref sig .tc .vmem S49x200x256 .f32) (h1 : a1.IsWhole) (a2 : Memref sig .tc .vmem S1024x256 .f32) (h2 : a2.IsWhole) (a3 : Memref sig .tc .vmem S1x1024 .f32) (h3 : a3.IsWhole) (a4 : Memref sig .tc .vmem S1x1024 .f32) (h4 : a4.IsWhole) (a5 : Memref sig .tc .vmem S81x1024 .f32) (h5 : a5.IsWhole) (a6 : Memref sig .tc .vmem S1x81 .f32) (h6 : a6.IsWhole) (a7 : Memref sig .tc .vmem S324x1024 .f32) (h7 : a7.IsWhole) (a8 : Memref sig .tc .vmem S1x324 .f32) (h8 : a8.IsWhole) (a9 : Memref sig .tc .vmem S1000x81 .f32) (h9 : a9.IsWhole) (a10 : Memref sig .tc .vmem S1000x324 .f32) (h10 : a10.IsWhole) (a11 : Memref sig .tc .vmem S5000x1024 .f32) (h11 : a11.IsWhole) (a12 : Memref sig .tc .vmem S2x1024 .f32) (h12 : a12.IsWhole)
    (c1 : pass1 i) (c2 : ¬first i) (c3 : later i) (c4 : ¬pass2 i)
    (x0 : Vec F S49x200x256 .f32) (x1 : Vec F S1024x256 .f32) (d11 : Vec F S5000x1024 .f32) (d12 : Vec F S2x1024 .f32)
    (E : Set ℕ) (K : PUnit → sProp 𝕄) :
    iprop(owns (c : Thread nD τ) a1 fullShare x0 ∗ owns (c : Thread nD τ) a2 fullShare x1 ∗ owns (c : Thread nD τ) a11 fullShare d11 ∗ owns (c : Thread nD τ) a12 fullShare d12
      ∗ (∀ e11 e12, iprop(⌜Filled (i 0).val x0 x1 d11 e11 ∧ View.ld e12 row0 = k0_pay7 x0 x1 (View.ld d12 row0) ∧ View.ld e12 row1 = k0_pay8 x0 x1 (View.ld d12 row1)⌝
        ∗ owns (c : Thread nD τ) a1 fullShare x0 ∗ owns (c : Thread nD τ) a2 fullShare x1 ∗ owns (c : Thread nD τ) a11 fullShare e11 ∗ owns (c : Thread nD τ) a12 fullShare e12) -∗ K ⟨⟩))
      ⊢ wp frame (wpE (defs₀ (F := F)) Variants.none c none) E (cc0__head_kernel i a1 h1 a2 h2 a3 h3 a4 h4 a5 h5 a6 h6 a7 h7 a8 h8 a9 h9 a10 h10 a11 h11 a12 h12) K := by
  simp only [cc0__head_kernel_eq_skeleton]; unfold cc0__head_kernel_skel
  unfold owns
  iintro ⟨⟨%f1, %hf1, H1⟩, ⟨%f2, %hf2, H2⟩, ⟨%f11, %hf11, H11⟩, ⟨%f12, %hf12, H12⟩, Hk⟩
  obtain rfl := h1.eq_unread hf1
  obtain rfl := h2.eq_unread hf2
  obtain rfl := h11.eq_unread hf11
  obtain rfl := h12.eq_unread hf12
  sl_exec (disch := first | sl_exact c1 | sl_exact c2 | sl_exact c3 | sl_exact c4)
  sl_step
  iapply Hk
  isplitr
  rotate_left
  isplitl [H1]
  · iexists _; isplitr; · ipureintro; exact h1.read_unread _
    iexact H1
  isplitl [H2]
  · iexists _; isplitr; · ipureintro; exact h2.read_unread _
    iexact H2
  isplitl [H11]
  · iexists _; isplitr; swap; · iexact H11
    ipureintro; rfl
  · iexists _; isplitr; swap; · iexact H12
    ipureintro; rfl
  ipureintro
  rw [load_all h1 x0 zero3, load_all h2 x1 zero2, load_part h12 d12 row0]
  refine ⟨?_, ?_⟩
  · have h := filled_read a11.view (h11.unread d11) i c1 x0 x1
    rwa [h11.read_unread] at h
  have e : run_later.sl.v34 c a12 h12 d12 = View.ld d12 row1 := load_part h12 d12 row1
  rw [e]
  exact stats_read (F := F) _ _ _ _

set_option maxHeartbeats 4000000 in
/-- A point of the second pass: the two heads of its 1000 rows, from the statistics and the hidden layer. -/
theorem run_heads (c : Dev nD) (i : grid0.Coords) (a1 : Memref sig .tc .vmem S49x200x256 .f32) (h1 : a1.IsWhole) (a2 : Memref sig .tc .vmem S1024x256 .f32) (h2 : a2.IsWhole) (a3 : Memref sig .tc .vmem S1x1024 .f32) (h3 : a3.IsWhole) (a4 : Memref sig .tc .vmem S1x1024 .f32) (h4 : a4.IsWhole) (a5 : Memref sig .tc .vmem S81x1024 .f32) (h5 : a5.IsWhole) (a6 : Memref sig .tc .vmem S1x81 .f32) (h6 : a6.IsWhole) (a7 : Memref sig .tc .vmem S324x1024 .f32) (h7 : a7.IsWhole) (a8 : Memref sig .tc .vmem S1x324 .f32) (h8 : a8.IsWhole) (a9 : Memref sig .tc .vmem S1000x81 .f32) (h9 : a9.IsWhole) (a10 : Memref sig .tc .vmem S1000x324 .f32) (h10 : a10.IsWhole) (a11 : Memref sig .tc .vmem S5000x1024 .f32) (h11 : a11.IsWhole) (a12 : Memref sig .tc .vmem S2x1024 .f32) (h12 : a12.IsWhole)
    (c1 : ¬pass1 i) (c4 : pass2 i)
    (x2 x3 : Vec F S1x1024 .f32) (x4 : Vec F S81x1024 .f32) (x5 : Vec F S1x81 .f32) (x6 : Vec F S324x1024 .f32) (x7 : Vec F S1x324 .f32)
    (d9 : Vec F S1000x81 .f32) (d10 : Vec F S1000x324 .f32) (d11 : Vec F S5000x1024 .f32) (d12 : Vec F S2x1024 .f32)
    (E : Set ℕ) (K : PUnit → sProp 𝕄) :
    iprop(owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare d9 ∗ owns (c : Thread nD τ) a10 fullShare d10 ∗ owns (c : Thread nD τ) a11 fullShare d11 ∗ owns (c : Thread nD τ) a12 fullShare d12
      ∗ (iprop(owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare (k0_pay11 (View.ld d12 row0) (View.ld d12 row1) x2 x3 (View.ld d11 (hRect i c4)) x4 x5) ∗ owns (c : Thread nD τ) a10 fullShare (k0_pay9 (k0_pay10 (View.ld d12 row0) (View.ld d12 row1) x2 x3 (View.ld d11 (hRect i c4))) x6 x7) ∗ owns (c : Thread nD τ) a11 fullShare d11 ∗ owns (c : Thread nD τ) a12 fullShare d12) -∗ K ⟨⟩))
      ⊢ wp frame (wpE (defs₀ (F := F)) Variants.none c none) E (cc0__head_kernel i a1 h1 a2 h2 a3 h3 a4 h4 a5 h5 a6 h6 a7 h7 a8 h8 a9 h9 a10 h10 a11 h11 a12 h12) K := by
  simp only [cc0__head_kernel_eq_skeleton]; unfold cc0__head_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := h3.eq_unread hf3
  obtain rfl := h4.eq_unread hf4
  obtain rfl := h5.eq_unread hf5
  obtain rfl := h6.eq_unread hf6
  obtain rfl := h7.eq_unread hf7
  obtain rfl := h8.eq_unread hf8
  obtain rfl := h9.eq_unread hf9
  obtain rfl := h10.eq_unread hf10
  obtain rfl := h11.eq_unread hf11
  obtain rfl := h12.eq_unread hf12
  sl_exec (disch := first | sl_exact c1 | sl_exact c4)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro; refine (View.read_writes_full _ _ _ _ _).trans ?_
    rw [load_all h3 x2 zero2, load_all h4 x3 zero2, load_all h5 x4 zero2, load_all h6 x5 zero2, load_part h11,
      load_part h12 d12 row0, load_part h12 d12 row1]
  isplitl [H10]
  · iexists _; isplitr; swap; · iexact H10
    ipureintro; refine (View.read_writes_full _ _ _ _ _).trans ?_
    rw [load_all h3 x2 zero2, load_all h4 x3 zero2, load_part h11, load_part h12 d12 row0, load_part h12 d12 row1]
    exact congrArg₂ _ (load_all h7 x6 zero2 _) (load_all h8 x7 zero2 _)
  isplitl [H11]
  · iexists _; isplitr; · ipureintro; exact h11.read_unread _
    iexact H11
  · iexists _; isplitr; · ipureintro; exact h12.read_unread _
    iexact H12

end Cert.KernelIdeal.Hand

end
-- ==== Proof.Data.lean ====
/- The pipeline of the idealized program: what the scratch holds between the grid points, what each point leaves in the
   output buffers, and the run of @main they give. -/
module

public import proofs.«01_k».proof.Proof.Runs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.WritesUnit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the run computes, stated over the window blocks -/

/-- Point number `k` of the grid. -/
def pt (k : ℕ) : Fin cfg0.N := ⟨k % 30, lt_of_lt_of_eq (Nat.mod_lt k (by decide)) (show 30 = cfg0.N from N_0.symm)⟩

theorem lt30 (t : Fin cfg0.N) : t.val < 30 := lt_of_lt_of_eq t.isLt (show cfg0.N = 30 from N_0)

theorem pt_val (t : Fin cfg0.N) : pt t.val = t := Fin.ext (Nat.mod_eq_of_lt (lt30 t))

/-- The grid has one axis: its coordinate is the point's number. -/
theorem coords_val : ∀ t : Fin cfg0.N, ((grid0.coords t) 0).val = t.val :=
  (by decide +kernel : ∀ t : Fin grid0.N, ((grid0.coords t) 0).val = t.val)

/-- The block of the pooled features' input a first-pass point reads. -/
abbrev xb (c : Dev nD) (k : ℕ) : Vec F S49x200x256 .f32 := iblk m c 0 (pt k)
/-- The hidden layer's weights, as the points read them. -/
abbrev wb (c : Dev nD) (k : ℕ) : Vec F S1024x256 .f32 := iblk m c 1 (pt k)

/-- The sum of the hidden layer's rows over the blocks `0 .. n`. -/
def sum0 (c : Dev nD) : ℕ → Vec F S1x1024 .f32
  | 0 => k0_pay5 (xb m c 0) (wb m c 0)
  | n + 1 => k0_pay7 (xb m c (n + 1)) (wb m c (n + 1)) (sum0 c n)

/-- The sum of the squares of the hidden layer's rows over the blocks `0 .. n`. -/
def sum1 (c : Dev nD) : ℕ → Vec F S1x1024 .f32
  | 0 => k0_pay6 (xb m c 0) (wb m c 0)
  | n + 1 => k0_pay8 (xb m c (n + 1)) (wb m c (n + 1)) (sum1 c n)

/-- The row of its block of 200 a row of the hidden layer is. -/
def inBlock (y : S5000x1024.Idx) : S200x1024.Idx := fun a => match a with
  | ⟨0, _⟩ => ⟨(y (0 : Fin 2)).val % 200, Nat.mod_lt _ (by decide)⟩
  | ⟨1, _⟩ => ⟨(y (1 : Fin 2)).val, (y (1 : Fin 2)).isLt⟩

/-- The hidden layer, all 5000 rows. -/
def hid (c : Dev nD) : Vec F S5000x1024 .f32 := fun y =>
  k0_pay2 (xb m c ((y (0 : Fin 2)).val / 200)) (wb m c ((y (0 : Fin 2)).val / 200)) (inBlock y)

/-- The 1000 rows of second-pass point `t` lie in the hidden layer. -/
theorem rows_inb (t : Fin cfg0.N) : ∀ a, (![1000 * (t.val - 25), 0] : Fin 2 → ℕ) a + S1000x1024.size a ≤ S5000x1024.size a :=
  Fin.forall_fin_two.mpr ⟨by
    have := lt30 t
    show 1000 * (t.val - 25) + 1000 ≤ 5000
    omega, by show 0 + 1024 ≤ 1024; omega⟩

/-- The 1000 rows of the hidden layer second-pass point `t` reads. -/
def hidRows (c : Dev nD) (t : Fin cfg0.N) : Vec F S1000x1024 .f32 :=
  View.ld (hid m c) (Rect.unit (s := S5000x1024) ![1000 * (t.val - 25), 0] S1000x1024.size (rows_inb t))

/-- The class scores second-pass point `t` leaves. -/
def clsBlock (c : Dev nD) (t : Fin cfg0.N) : Vec F S1000x81 .f32 :=
  k0_pay11 (sum0 m c 24) (sum1 m c 24) (iblk m c 2 t) (iblk m c 3 t) (hidRows m c t) (iblk m c 4 t) (iblk m c 5 t)

/-- The box offsets second-pass point `t` leaves. -/
def boxBlock (c : Dev nD) (t : Fin cfg0.N) : Vec F S1000x324 .f32 :=
  k0_pay9 (k0_pay10 (sum0 m c 24) (sum1 m c 24) (iblk m c 2 t) (iblk m c 3 t) (hidRows m c t)) (iblk m c 6 t) (iblk m c 7 t)

/-- The first row a second-pass point reads of the hidden layer. -/
theorem k0_off2_at : ∀ t : Fin cfg0.N, 25 ≤ t.val → k0_off2 (grid0.coords t) = ![1000 * (t.val - 25), 0] :=
  (by decide +kernel : ∀ t : Fin grid0.N, 25 ≤ t.val → k0_off2 (grid0.coords t) = ![1000 * (t.val - 25), 0])

/-! ## What the scratch holds before point `n` -/

/-- Before point `n`: the hidden layer's rows of the blocks below `n` are in place, and (after the first point) the
    statistics are the sums over those blocks. -/
structure Inv (c : Dev nD) (n : ℕ) (d11 : Vec F S5000x1024 .f32) (d12 : Vec F S2x1024 .f32) : Prop where
  /-- the rows in place -/
  rows : ∀ y : S5000x1024.Idx, (y (0 : Fin 2)).val < 200 * n → d11 y = hid m c y
  /-- the statistics -/
  stats : n ≠ 0 → View.ld d12 row0 = sum0 m c (min (n - 1) 24) ∧ View.ld d12 row1 = sum1 m c (min (n - 1) 24)

variable {m}

/-- A block filled in: the rows below it and its own are in place. -/
theorem Filled.rows {c : Dev nD} {t : Fin cfg0.N} {d11 e11 : Vec F S5000x1024 .f32}
    (hf : Filled ((grid0.coords t) 0).val (iblk m c 0 t) (iblk m c 1 t) d11 e11)
    (h : ∀ y : S5000x1024.Idx, (y (0 : Fin 2)).val < 200 * t.val → d11 y = hid m c y) :
    ∀ y : S5000x1024.Idx, (y (0 : Fin 2)).val < 200 * (t.val + 1) → e11 y = hid m c y := by
  intro y hy
  rw [coords_val] at hf
  by_cases hlt : (y (0 : Fin 2)).val < 200 * t.val
  · rw [hf.old y (Or.inl hlt), h y hlt]
  · have hq : (y (0 : Fin 2)).val / 200 = t.val := by omega
    rw [hf.new y (inBlock y) (by show _ = 200 * t.val + (y (0 : Fin 2)).val % 200; omega) rfl]
    unfold hid xb wb
    rw [hq, pt_val]

/-- The invariant after point 0. -/
theorem Inv.first {c : Dev nD} {t : Fin cfg0.N} {d11 e11 : Vec F S5000x1024 .f32} {d12 e12 : Vec F S2x1024 .f32}
    (inv : Inv m c t.val d11 d12) (h0 : t.val = 0)
    (h : Filled ((grid0.coords t) 0).val (iblk m c 0 t) (iblk m c 1 t) d11 e11
      ∧ View.ld e12 row0 = k0_pay5 (iblk m c 0 t) (iblk m c 1 t) ∧ View.ld e12 row1 = k0_pay6 (iblk m c 0 t) (iblk m c 1 t)) :
    Inv m c (t.val + 1) e11 e12 where
  rows := h.1.rows inv.rows
  stats _ := by
    rw [h.2.1, h.2.2, show min (t.val + 1 - 1) 24 = 0 by omega]
    unfold sum0 sum1 xb wb
    rw [← h0, pt_val]
    exact ⟨rfl, rfl⟩

/-- The invariant after a later first-pass point. -/
theorem Inv.later {c : Dev nD} {t : Fin cfg0.N} {d11 e11 : Vec F S5000x1024 .f32} {d12 e12 : Vec F S2x1024 .f32}
    (inv : Inv m c t.val d11 d12) (h1 : 1 ≤ t.val) (h25 : t.val < 25)
    (h : Filled ((grid0.coords t) 0).val (iblk m c 0 t) (iblk m c 1 t) d11 e11
      ∧ View.ld e12 row0 = k0_pay7 (iblk m c 0 t) (iblk m c 1 t) (View.ld d12 row0)
      ∧ View.ld e12 row1 = k0_pay8 (iblk m c 0 t) (iblk m c 1 t) (View.ld d12 row1)) :
    Inv m c (t.val + 1) e11 e12 where
  rows := h.1.rows inv.rows
  stats _ := by
    obtain ⟨k, hk⟩ : ∃ k, t.val = k + 1 := ⟨t.val - 1, by omega⟩
    have hs := inv.stats (by omega)
    rw [h.2.1, h.2.2, hs.1, hs.2, show min (t.val + 1 - 1) 24 = k + 1 by omega, show min (t.val - 1) 24 = k by omega]
    rw [show sum0 m c (k + 1) = k0_pay7 (xb m c (k + 1)) (wb m c (k + 1)) (sum0 m c k) from rfl,
      show sum1 m c (k + 1) = k0_pay8 (xb m c (k + 1)) (wb m c (k + 1)) (sum1 m c k) from rfl]
    unfold xb wb
    rw [← hk, pt_val]
    exact ⟨rfl, rfl⟩

/-- A second-pass point leaves the scratch as it is. -/
theorem Inv.second {c : Dev nD} {n : ℕ} {d11 : Vec F S5000x1024 .f32} {d12 : Vec F S2x1024 .f32}
    (inv : Inv m c n d11 d12) (h25 : 25 ≤ n) : Inv m c (n + 1) d11 d12 where
  rows y _ := inv.rows y (by have : (y (0 : Fin 2)).val < 5000 := (y (0 : Fin 2)).isLt; omega)
  stats _ := by
    have hs := inv.stats (by omega)
    rwa [show min (n + 1 - 1) 24 = min (n - 1) 24 by omega]

/-- What a second-pass point computes of the scratch is its output blocks. -/
theorem Inv.heads {c : Dev nD} {d11 : Vec F S5000x1024 .f32} {d12 : Vec F S2x1024 .f32} (t : Fin cfg0.N)
    (inv : Inv m c t.val d11 d12) (c4 : pass2 (grid0.coords t)) :
    k0_pay11 (View.ld d12 row0) (View.ld d12 row1) (iblk m c 2 t) (iblk m c 3 t) (View.ld d11 (hRect (grid0.coords t) c4))
        (iblk m c 4 t) (iblk m c 5 t) = clsBlock m c t
      ∧ k0_pay9 (k0_pay10 (View.ld d12 row0) (View.ld d12 row1) (iblk m c 2 t) (iblk m c 3 t)
          (View.ld d11 (hRect (grid0.coords t) c4))) (iblk m c 6 t) (iblk m c 7 t) = boxBlock m c t := by
  have h25 : 25 ≤ t.val := (pass2_iff t).mp c4
  have hs := inv.stats (by omega)
  rw [show min (t.val - 1) 24 = 24 by omega] at hs
  have hr : View.ld d11 (hRect (grid0.coords t) c4) = hidRows m c t := by
    funext x
    refine (inv.rows ((hRect (grid0.coords t) c4).emb x) ?_).trans (congrArg (hid m c) ?_)
    · have : (((hRect (grid0.coords t) c4).emb x) (0 : Fin 2)).val < 5000 := (((hRect (grid0.coords t) c4).emb x) (0 : Fin 2)).isLt
      omega
    · refine funext fun a => Fin.ext ?_
      show (k0_off2 (grid0.coords t)) a + 1 * (x a).val = (![1000 * (t.val - 25), 0] : Fin 2 → ℕ) a + 1 * (x a).val
      rw [k0_off2_at t h25]
  rw [hs.1, hs.2, hr]
  exact ⟨rfl, rfl⟩

variable (m)

/-- The scratch before point `n`, at contents the invariant describes, with the generator register at some state. -/
def Phi (c : Dev nD) (n : ℕ) : sProp 𝕄 :=
  iprop(∃ d11 d12, ⌜Inv m c n d11 d12⌝
    ∗ (owns (c : Thread nD τ) (Memref.whole cc0_scratch0) fullShare d11 ∗ owns (c : Thread nD τ) (Memref.whole cc0_scratch1) fullShare d12)
    ∗ (∃ r, prngReg c r))

/-- The launch's scratch, at anything, as memrefs. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- Before the first point nothing is asked of the scratch. -/
theorem hin (c : Dev nD) : Pipeline.ΦA spec0 c ⊢ Phi m c 0 := by
  rw [PhiA_eq]
  unfold Phi
  iintro ⟨⟨⟨%d11, S0⟩, ⟨%d12, S1⟩⟩, Hg⟩
  iexists d11, d12
  isplitr
  · ipureintro; exact ⟨fun y h => absurd h (by omega), fun h => absurd rfl h⟩
  isplitl [S0 S1]
  · isplitl [S0]; · iexact S0
    iexact S1
  iexact Hg

/-- At any point the scratch's contents may be forgotten. -/
theorem hout (c : Dev nD) (n : ℕ) : Phi m c n ⊢ Pipeline.ΦA spec0 c := by
  rw [PhiA_eq]
  unfold Phi
  iintro ⟨%d11, %d12, -, ⟨S0, S1⟩, Hg⟩
  isplitl [S0 S1]
  · isplitl [S0]
    · iexists d11; iexact S0
    iexists d12; iexact S1
  iexact Hg

/-! ## The pipeline's proof data -/

/-- Window 0's staging buffer at point `t`. -/
abbrev ms0 (t : Fin cfg0.N) : Memref sig .tc .vmem S49x200x256 .f32 := win0_0.stage (cfg0.slots t 0)
/-- Window 1's staging buffer at point `t`. -/
abbrev ms1 (t : Fin cfg0.N) : Memref sig .tc .vmem S1024x256 .f32 := win0_1.stage (cfg0.slots t 1)
/-- Window 2's staging buffer at point `t`. -/
abbrev ms2 (t : Fin cfg0.N) : Memref sig .tc .vmem S1x1024 .f32 := win0_2.stage (cfg0.slots t 2)
/-- Window 3's staging buffer at point `t`. -/
abbrev ms3 (t : Fin cfg0.N) : Memref sig .tc .vmem S1x1024 .f32 := win0_3.stage (cfg0.slots t 3)
/-- Window 4's staging buffer at point `t`. -/
abbrev ms4 (t : Fin cfg0.N) : Memref sig .tc .vmem S81x1024 .f32 := win0_4.stage (cfg0.slots t 4)
/-- Window 5's staging buffer at point `t`. -/
abbrev ms5 (t : Fin cfg0.N) : Memref sig .tc .vmem S1x81 .f32 := win0_5.stage (cfg0.slots t 5)
/-- Window 6's staging buffer at point `t`. -/
abbrev ms6 (t : Fin cfg0.N) : Memref sig .tc .vmem S324x1024 .f32 := win0_6.stage (cfg0.slots t 6)
/-- Window 7's staging buffer at point `t`. -/
abbrev ms7 (t : Fin cfg0.N) : Memref sig .tc .vmem S1x324 .f32 := win0_7.stage (cfg0.slots t 7)
/-- Window 8's staging buffer at point `t`. -/
abbrev ms8 (t : Fin cfg0.N) : Memref sig .tc .vmem S1000x81 .f32 := win0_8.stage (cfg0.slots t 8)
/-- Window 9's staging buffer at point `t`. -/
abbrev ms9 (t : Fin cfg0.N) : Memref sig .tc .vmem S1000x324 .f32 := win0_9.stage (cfg0.slots t 9)

/-- The arrays as the region finds them; each input's buffer at its block; the outputs' at what their point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => clsBlock m c t
    | ⟨9, _⟩ => boxBlock m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = clsBlock m c t := by dsimp only [dats]
theorem after_9 (c : Dev nD) (t : Fin cfg0.N) : (dats m 0 c).after 9 t = boxBlock m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Output window 8 is idle in the first pass, -/
theorem idle_8 : ∀ t : Fin cfg0.N, t.val < 25 → cfg0.idle 8 (grid0.coords t) = true :=
  (by decide +kernel : ∀ t : Fin grid0.N, t.val < 25 → idle0 8 (grid0.coords t) = true)
/-- live in the second, -/
theorem live_8 : ∀ t : Fin cfg0.N, 25 ≤ t.val → cfg0.idle 8 (grid0.coords t) = false :=
  (by decide +kernel : ∀ t : Fin grid0.N, 25 ≤ t.val → idle0 8 (grid0.coords t) = false)
/-- and written back there. -/
theorem flush_8 : ∀ t : Fin cfg0.N, (cfg0.win 8).flush t = true ↔ 25 ≤ t.val :=
  (by decide +kernel : ∀ t : Fin grid0.N, win0_8.flush t = true ↔ 25 ≤ t.val)
/-- Output window 9 is idle in the first pass, -/
theorem idle_9 : ∀ t : Fin cfg0.N, t.val < 25 → cfg0.idle 9 (grid0.coords t) = true :=
  (by decide +kernel : ∀ t : Fin grid0.N, t.val < 25 → idle0 9 (grid0.coords t) = true)
/-- live in the second, -/
theorem live_9 : ∀ t : Fin cfg0.N, 25 ≤ t.val → cfg0.idle 9 (grid0.coords t) = false :=
  (by decide +kernel : ∀ t : Fin grid0.N, 25 ≤ t.val → idle0 9 (grid0.coords t) = false)
/-- and written back there. -/
theorem flush_9 : ∀ t : Fin cfg0.N, (cfg0.win 9).flush t = true ↔ 25 ≤ t.val :=
  (by decide +kernel : ∀ t : Fin grid0.N, win0_9.flush t = true ↔ 25 ≤ t.val)

theorem leaves_0 (c : Dev nD) (t : Fin cfg0.N) :
    (dats m 0 c).leavesExact 0 t = owns (c : Thread nD τ) (ms0 t) fullShare (iblk m c 0 t) := by
  rw [← after_0]
theorem leaves_1 (c : Dev nD) (t : Fin cfg0.N) :
    (dats m 0 c).leavesExact 1 t = owns (c : Thread nD τ) (ms1 t) fullShare (iblk m c 1 t) := by
  rw [← after_1]
theorem leaves_2 (c : Dev nD) (t : Fin cfg0.N) :
    (dats m 0 c).leavesExact 2 t = owns (c : Thread nD τ) (ms2 t) fullShare (iblk m c 2 t) := by
  rw [← after_2]
theorem leaves_3 (c : Dev nD) (t : Fin cfg0.N) :
    (dats m 0 c).leavesExact 3 t = owns (c : Thread nD τ) (ms3 t) fullShare (iblk m c 3 t) := by
  rw [← after_3]
theorem leaves_4 (c : Dev nD) (t : Fin cfg0.N) :
    (dats m 0 c).leavesExact 4 t = owns (c : Thread nD τ) (ms4 t) fullShare (iblk m c 4 t) := by
  rw [← after_4]
theorem leaves_5 (c : Dev nD) (t : Fin cfg0.N) :
    (dats m 0 c).leavesExact 5 t = owns (c : Thread nD τ) (ms5 t) fullShare (iblk m c 5 t) := by
  rw [← after_5]
theorem leaves_6 (c : Dev nD) (t : Fin cfg0.N) :
    (dats m 0 c).leavesExact 6 t = owns (c : Thread nD τ) (ms6 t) fullShare (iblk m c 6 t) := by
  rw [← after_6]
theorem leaves_7 (c : Dev nD) (t : Fin cfg0.N) :
    (dats m 0 c).leavesExact 7 t = owns (c : Thread nD τ) (ms7 t) fullShare (iblk m c 7 t) := by
  rw [← after_7]
/-- Below point 25 output window 8 is not written: its buffer is handed back as it came. -/
theorem leaves_8_idle (c : Dev nD) (t : Fin cfg0.N) (ht : t.val < 25) :
    (dats m 0 c).leavesExact 8 t = iprop(∃ d, owns (c : Thread nD τ) (ms8 t) fullShare ((dats m 0 c).before 8 t d)) :=
  (dats m 0 c).leavesExact_idle 8 t (idle_8 t ht) (by
    have h := flush_8 t
    cases e : (cfg0.win 8).flush t
    · rfl
    · exact absurd (h.mp e) (by omega))
/-- From point 25 on it holds the point's block. -/
theorem leaves_8_live (c : Dev nD) (t : Fin cfg0.N) (ht : 25 ≤ t.val) :
    (dats m 0 c).leavesExact 8 t = owns (c : Thread nD τ) (ms8 t) fullShare (clsBlock m c t) := by
  rw [← after_8]; unfold Dat.leavesExact; rw [live_8 t ht]

/-- Below point 25 output window 9 is not written: its buffer is handed back as it came. -/
theorem leaves_9_idle (c : Dev nD) (t : Fin cfg0.N) (ht : t.val < 25) :
    (dats m 0 c).leavesExact 9 t = iprop(∃ d, owns (c : Thread nD τ) (ms9 t) fullShare ((dats m 0 c).before 9 t d)) :=
  (dats m 0 c).leavesExact_idle 9 t (idle_9 t ht) (by
    have h := flush_9 t
    cases e : (cfg0.win 9).flush t
    · rfl
    · exact absurd (h.mp e) (by omega))
/-- From point 25 on it holds the point's block. -/
theorem leaves_9_live (c : Dev nD) (t : Fin cfg0.N) (ht : 25 ≤ t.val) :
    (dats m 0 c).leavesExact 9 t = owns (c : Thread nD τ) (ms9 t) fullShare (boxBlock m c t) := by
  rw [← after_9]; unfold Dat.leavesExact; rw [live_9 t ht]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point: the branch the point's number selects. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [leaves_0 m c t, leaves_1 m c t, leaves_2 m c t, leaves_3 m c t, leaves_4 m c t, leaves_5 m c t, leaves_6 m c t, leaves_7 m c t]
  unfold Phi
  iintro ⟨⟨%d11, %d12, %inv, ⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h25 : t.val < 25
  · rw [leaves_8_idle m c t h25, leaves_9_idle m c t h25]
    by_cases h0 : t.val = 0
    · iapply (run_first c (grid0.coords t) _ (hstage0_0 ((cfg0.slots t 0).cast nbuf0_0)) _ (hstage0_1 ((cfg0.slots t 1).cast nbuf0_1)) _ _ _ _ _ _ _ _ _ _ _ _ _ _ _ _ _ (Memref.isWhole_whole _) _ (Memref.isWhole_whole _) ((pass1_iff t).mpr h25) ((first_iff t).mpr h0) (fun h => absurd ((later_iff t).mp h) (by omega)) (fun h => absurd ((pass2_iff t).mp h) (by omega))
        (iblk m c 0 t) (iblk m c 1 t) d11 d12 Set.univ _)
      isplitl [H0]; · iexact H0
      isplitl [H1]; · iexact H1
      isplitl [S0]; · iexact S0
      isplitl [S1]; · iexact S1
      iintro %e11 %e12 ⟨%he, H0, H1, S0, S1⟩
      isplitl [S0 S1 Hg]
      · iexists e11, e12
        isplitr
        · ipureintro; exact inv.first h0 he
        isplitl [S0 S1]
        · isplitl [S0]; · iexact S0
          iexact S1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

    · iapply (run_later c (grid0.coords t) _ (hstage0_0 ((cfg0.slots t 0).cast nbuf0_0)) _ (hstage0_1 ((cfg0.slots t 1).cast nbuf0_1)) _ _ _ _ _ _ _ _ _ _ _ _ _ _ _ _ _ (Memref.isWhole_whole _) _ (Memref.isWhole_whole _) ((pass1_iff t).mpr h25) (fun h => h0 ((first_iff t).mp h)) ((later_iff t).mpr (by omega)) (fun h => absurd ((pass2_iff t).mp h) (by omega))
        (iblk m c 0 t) (iblk m c 1 t) d11 d12 Set.univ _)
      isplitl [H0]; · iexact H0
      isplitl [H1]; · iexact H1
      isplitl [S0]; · iexact S0
      isplitl [S1]; · iexact S1
      iintro %e11 %e12 ⟨%he, H0, H1, S0, S1⟩
      isplitl [S0 S1 Hg]
      · iexists e11, e12
        isplitr
        · ipureintro; exact inv.later (by omega) h25 he
        isplitl [S0 S1]
        · isplitl [S0]; · iexact S0
          iexact S1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

  · rw [leaves_8_live m c t (by omega), leaves_9_live m c t (by omega)]
    have c4 : pass2 (grid0.coords t) := (pass2_iff t).mpr (by omega)
    have hb := inv.heads t c4
    rw [← hb.1, ← hb.2]
    iapply (run_heads c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole _) _ (Memref.isWhole_whole _)
      (fun h => h25 ((pass1_iff t).mp h)) c4
      (iblk m c 2 t) (iblk m c 3 t) (iblk m c 4 t) (iblk m c 5 t) (iblk m c 6 t) (iblk m c 7 t) _ _ d11 d12 Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    iintro ⟨H2, H3, H4, H5, H6, H7, H8, H9, S0, S1⟩
    isplitl [S0 S1 Hg]
    · iexists d11, d12
      isplitr
      · ipureintro; exact inv.second (by omega)
      isplitl [S0 S1]
      · isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The run -/

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of @main ends, with the outputs' arrays at the blocks the second pass wrote back, every other buffer
    as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => hin m c) (hout := fun c => hout m c _)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Printed.lean ====
/- The kernel as printed is the idealized program with its named constants read as the words they were printed with, so
   what the idealized program's runs are shown to do on every kind of float its runs do too. -/
module

public import proofs.«01_k».proof.Defs
public import proofs.«01_k».proof.Proof.Data
public import proofs.«01_k».proof.Proof.Gen.Kernel

@[expose] public section

set_option maxRecDepth 16384

noncomputable section

namespace Cert.Printed

open Idealize.ShloMosaic Idealize.SL.Sem

/-- A named constant read as its printed word. -/
@[reducible] def printed : Named Bits where
  named _ _ {φ} w := Scalar.ofBits φ w

attribute [local instance] printed

/-- The two programs' bodies are the same, -/
theorem bodies_eq : Cert.Kernel.defs₀ (F := Bits) = Cert.KernelIdeal.defs₀ (F := Bits) := by
  refine congrArg Defs.onTc (funext fun l => funext fun a => ?_)
  match l, a with
  | ⟨0, _⟩, (t, s) =>
    unfold Cert.Kernel.cc0__head_kernel Cert.KernelIdeal.cc0__head_kernel
    rfl
  | ⟨n + 1, h⟩, _ => exact absurd h (Nat.not_lt.2 (Nat.le_add_left _ _))

/-- so are the tables of all their functions, -/
theorem defs_eq : Cert.Kernel.defs (F := Bits) = Cert.KernelIdeal.defs (F := Bits) :=
  congrArg (Pipeline.defs Cert.Kernel.pcfgs) bodies_eq

/-- and their entry points. -/
theorem main_eq : Cert.Kernel.main (F := Bits) = Cert.KernelIdeal.main (F := Bits) := by
  unfold Cert.Kernel.main Cert.KernelIdeal.main
  rfl

/-- So the printed kernel ends as the idealized program does: its arguments unchanged and its counters at zero. -/
theorem frame : Cert.quiescent_Kernel := fun m ρ _ => by
  have h := Cert.KernelIdeal.Hand.frame (F := Bits) m ρ
  rw [← defs_eq, ← main_eq] at h
  exact h

end Cert.Printed

end
-- ==== Proof.Frames.lean ====
/- The claims that need no values: every run ends with its arguments unchanged and its counters at zero, and the two
   named constants are the reals they stand for. -/
module

public import proofs.«01_k».proof.Defs
public import proofs.«01_k».proof.Proof.Data
public import proofs.«01_k».proof.Proof.Printed
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The shape relations the precondition's operations take. -/
instance preFacts : Cert.Pre_finite.Facts where
  bcast_S_S5000x256x7x7 := by decide
  reducesTo_S5000x256x7x7_S_d0_1_2_3 := by decide
  h_S_ := by decide
  bcast_S_S1024x256 := by decide
  reducesTo_S1024x256_S_d0_1 := by decide
  bcast_S_S1024 := by decide
  reducesTo_S1024_S_d0 := by decide

/-- The kernel as printed ends with its arguments unchanged. -/
theorem frame_kernel : Cert.quiescent_Kernel := Cert.Printed.frame

/-- So does its idealization, -/
theorem frame_ideal : Cert.quiescent_KernelIdeal := fun m ρ _ => Cert.KernelIdeal.Hand.frame m ρ

/-- on finite arguments in particular. -/
theorem frame_ideal_finite : Cert.quiescent_KernelIdeal_pre_finite := fun m ρ _ => Cert.KernelIdeal.Hand.frame m ρ

/-- The reference ends with its arguments unchanged, -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- on finite arguments in particular. -/
theorem frame_reference_finite : Cert.quiescent_ReferenceIdeal_pre_finite := fun m ρ _ => frame_reference m ρ trivial

/-- The two named constants are `1 / 49` and `1 / 5000`. -/
theorem preserves : Cert.preserves_Kernel_KernelIdeal :=
  ⟨IdealRules.named_const.statement Cert.KernelIdeal.κ "inv_hw" .f32 0x3CA72F05#32 ((1 / 49 : ℝ) : EReal) rfl,
    IdealRules.named_const.statement Cert.KernelIdeal.κ "inv_n" .f32 0x3951B717#32 ((1 / 5000 : ℝ) : EReal) rfl⟩

end Cert.Proof

end
-- ==== Proof.Consts.lean ====
/- The float patterns the two programs print, as extended reals. -/
module

public import Idealize.ShloMosaic.PureOps.Ideal.Laws
public import Mathlib.Tactic.NormNum

@[expose] public section

namespace Cert.Consts

open Idealize.ShloMosaic

/-- The number of pixels of an image. -/
theorem pixels : Ideal.ofBits .f32 0x42440000#32 = ((49 : ℝ) : EReal) := by
  simp [Ideal.ofBits, Ideal.ieee, -EReal.coe_mul]; norm_num

/-- The number of rows. -/
theorem rows : Ideal.ofBits .f32 0x459C4000#32 = ((5000 : ℝ) : EReal) := by
  simp [Ideal.ofBits, Ideal.ieee, -EReal.coe_mul]; norm_num

/-- What is added to a variance before its root is taken is a positive real. -/
theorem eps : ∃ e : ℝ, 0 < e ∧ Ideal.ofBits .f32 0x3727C5AC#32 = ((e : ℝ) : EReal) := by
  refine ⟨10995116 / 2 ^ 40, by norm_num, ?_⟩
  simp [Ideal.ofBits, Ideal.ieee, -EReal.coe_mul]; norm_num

/-- The pattern of infinity. -/
theorem infinity : Ideal.ofBits .f32 0x7F800000#32 = ⊤ := by
  simp [Ideal.ofBits, Ideal.ieee]

end Cert.Consts
-- ==== Proof.Finite.lean ====
/- What the precondition says: the images, the first layer's weights and biases and the normalisation's scales are reals. -/
module

public import proofs.«01_k».proof.Proof.Frames
public import proofs.«01_k».proof.Proof.Consts
public import Idealize.ShloMosaic.Lib.ReduceAll
public import Idealize.ShloMosaic.Lib.Pointwise

@[expose] public section

noncomputable section

namespace Cert.Proof

open Idealize.ShloMosaic Idealize.SL.Sem

/-- An extended real whose absolute value is below infinity is a real. -/
theorem real_of_abs (v : EReal) (h : FloatOps.cmpf (F := Ideal) (φ := .f32) .olt (FloatOps.hostAbsf (F := Ideal) (φ := .f32) v)
    (Ideal.ofBits .f32 0x7F800000#32) = 1#1) : ∃ r : ℝ, v = (r : EReal) := by
  rw [Cert.Consts.infinity] at h
  induction v with
  | bot => exact absurd h (show ¬Ideal.cmp .olt (max ⊥ (-⊥)) ⊤ = 1#1 by simp [Ideal.cmp])
  | top => exact absurd h (show ¬Ideal.cmp .olt (max ⊤ (-⊤)) ⊤ = 1#1 by simp [Ideal.cmp])
  | coe r => exact ⟨r, rfl⟩

/-- The precondition's four conjuncts, each at every element. -/
theorem finite_elements (x : FVec Ideal Cert.Pre_finite.S5000x256x7x7 .f32) (w : FVec Ideal Cert.Pre_finite.S1024x256 .f32)
    (b g be : FVec Ideal Cert.Pre_finite.S1024 .f32) (cw : FVec Ideal Cert.Pre_finite.S81x1024 .f32)
    (cb : FVec Ideal Cert.Pre_finite.S81 .f32) (bw : FVec Ideal Cert.Pre_finite.S324x1024 .f32) (bb : FVec Ideal Cert.Pre_finite.S324 .f32)
    (h : Cert.Pre_finite.fn (F := Ideal) x w b g be cw cb bw bb = fun _ => 1#1) :
    (∀ i, ∃ r : ℝ, x i = (r : EReal)) ∧ (∀ i, ∃ r : ℝ, w i = (r : EReal)) ∧ (∀ i, ∃ r : ℝ, b i = (r : EReal))
      ∧ (∀ i, ∃ r : ℝ, g i = (r : EReal)) := by
  haveI : Subsingleton Cert.Pre_finite.S_.Idx := ⟨fun a b => funext fun k => k.elim0⟩
  have h0 := congrFun h ix0
  obtain ⟨h1, hg⟩ := IntOp.andi_eq_one.1 h0
  obtain ⟨h2, hb⟩ := IntOp.andi_eq_one.1 h1
  obtain ⟨hx, hw⟩ := IntOp.andi_eq_one.1 h2
  exact ⟨fun i => real_of_abs _ (Host.reduce_andi_all _ _ _ _ _ hx i), fun i => real_of_abs _ (Host.reduce_andi_all _ _ _ _ _ hw i),
    fun i => real_of_abs _ (Host.reduce_andi_all _ _ _ _ _ hb i), fun i => real_of_abs _ (Host.reduce_andi_all _ _ _ _ _ hg i)⟩

end Cert.Proof

end
-- ==== Proof.Blocks.lean ====
/- The blocks the kernel's windows read, element by element, as elements of the program's arguments. -/
module

public import proofs.«01_k».proof.Proof.Data
public import Idealize.ShloMosaic.Lib.Pointwise
public import Idealize.ShloMosaic.Lib.StableHlo.Run

@[expose] public section

set_option maxRecDepth 16384

noncomputable section

namespace Cert.KernelIdeal.Hand

open Idealize.ShloMosaic Idealize.ShloMosaic.TcCoe Idealize.ShloMosaic.StableHlo Idealize.SL.Sem
open Idealize.ShloMosaic.Pipeline (Dat Cfg Window)
open Cert.KernelIdeal Cert.KernelIdeal.Gen

variable {F : FTy → Type} [FloatOps F] [Named F]
variable (m : (ℓ : Loc nD τ sig) → Buf (Elt F) ℓ) (c : Dev nD)

/-! ## The arrays the host prepares -/

/-- The images, pixels first, the two pixel axes merged. -/
theorem V_images (p : Fin 49) (r : Fin 5000) (k : Fin 256) :
    (V m c main_v1 : FVec F S49x5000x256 .f32) (ix3 p r k)
      = (m ((c : Thread nD τ).loc main_arg0) : FVec F S5000x256x7x7 .f32)
          (ix4 r k ⟨p.val / 7, by omega⟩ ⟨p.val % 7, by omega⟩) := by
  have e : V m c main_v1 = shapeCast S49x5000x256 (transpose S7x7x5000x256 [2, 3, 0, 1] (m ((c : Thread nD τ).loc main_arg0))
      transposes_S5000x256x7x7_S7x7x5000x256_2_3_0_1) shapeCasts_S7x7x5000x256_S49x5000x256 := by
    unfold V; simp only [hostOps0]; after_results; rfl
  rw [e]
  pointwise

/-- The normalisation's scales, as a row. -/
theorem V_scales (j : Fin 1024) : (V m c main_v2 : FVec F S1x1024 .f32) (ix2 0 j)
    = (m ((c : Thread nD τ).loc main_arg3) : FVec F S1024 .f32) (ix1 j) := by
  have e : V m c main_v2 = shapeCast S1x1024 (m ((c : Thread nD τ).loc main_arg3)) shapeCasts_S1024_S1x1024 := by
    unfold V; simp only [hostOps0]; after_results; rfl
  rw [e]
  pointwise

/-- Its offsets, as a row. -/
theorem V_offsets (j : Fin 1024) : (V m c main_v3 : FVec F S1x1024 .f32) (ix2 0 j)
    = (m ((c : Thread nD τ).loc main_arg4) : FVec F S1024 .f32) (ix1 j) := by
  have e : V m c main_v3 = shapeCast S1x1024 (m ((c : Thread nD τ).loc main_arg4)) shapeCasts_S1024_S1x1024 := by
    unfold V; simp only [hostOps0]; after_results; rfl
  rw [e]
  pointwise

/-- The class scores' biases, as a row. -/
theorem V_classBias (j : Fin 81) : (V m c main_v4 : FVec F S1x81 .f32) (ix2 0 j)
    = (m ((c : Thread nD τ).loc main_arg6) : FVec F S81 .f32) (ix1 j) := by
  have e : V m c main_v4 = shapeCast S1x81 (m ((c : Thread nD τ).loc main_arg6)) shapeCasts_S81_S1x81 := by
    unfold V; simp only [hostOps0]; after_results; rfl
  rw [e]
  pointwise

/-- The box offsets' biases, as a row. -/
theorem V_boxBias (j : Fin 324) : (V m c main_v5 : FVec F S1x324 .f32) (ix2 0 j)
    = (m ((c : Thread nD τ).loc main_arg8) : FVec F S324 .f32) (ix1 j) := by
  have e : V m c main_v5 = shapeCast S1x324 (m ((c : Thread nD τ).loc main_arg8)) shapeCasts_S324_S1x324 := by
    unfold V; simp only [hostOps0]; after_results; rfl
  rw [e]
  pointwise

/-! ## The windows' blocks -/

/-- First-pass point `n` reads images `200 n` to `200 n + 199`. -/
theorem index_0 : ∀ t : Fin cfg0.N, t.val < 25 → win0_0.index t 0 = 0 ∧ win0_0.index t 1 = t.val ∧ win0_0.index t 2 = 0 :=
  (by decide +kernel : ∀ t : Fin grid0.N, t.val < 25 → win0_0.index t 0 = 0 ∧ win0_0.index t 1 = t.val ∧ win0_0.index t 2 = 0)

theorem pt_of_lt {n : ℕ} (h : n < 30) : (pt n).val = n := Nat.mod_eq_of_lt h

/-- The images' block at first-pass point `n`. -/
theorem images_apply (n : ℕ) (hn : n < 25) (p : Fin 49) (r : Fin 200) (k : Fin 256) :
    xb m c n (ix3 p r k) = (V m c main_v1 : FVec F S49x5000x256 .f32) (ix3 p ⟨200 * n + r.val, by omega⟩ k) := by
  have hv : (pt n).val = n := pt_of_lt (by omega)
  obtain ⟨h0, h1, h2⟩ := index_0 (pt n) (by omega)
  unfold xb iblk
  rw [View.read_apply]
  show V m c main_v1 _ = V m c main_v1 _
  congr 1
  funext a
  apply Fin.ext
  match a with
  | ⟨0, _⟩ => show win0_0.index (pt n) 0 * 49 + 1 * p.val = p.val; rw [h0]; omega
  | ⟨1, _⟩ => show win0_0.index (pt n) 1 * 200 + 1 * r.val = 200 * n + r.val; rw [h1, hv]; omega
  | ⟨2, _⟩ => show win0_0.index (pt n) 2 * 256 + 1 * k.val = k.val; rw [h2]; omega

/-- A window over one whole array reads that array at every point. -/
theorem whole_1 (t : Fin cfg0.N) : iblk m c 1 t = V m c main_arg1 :=
  Memref.read_access_unit_zero (Elt F) main_arg1 (funext fun a => by fin_cases a <;> rfl) _ _
theorem whole_2 (t : Fin cfg0.N) : iblk m c 2 t = V m c main_v2 :=
  Memref.read_access_unit_zero (Elt F) main_v2 (funext fun a => by fin_cases a <;> rfl) _ _
theorem whole_3 (t : Fin cfg0.N) : iblk m c 3 t = V m c main_v3 :=
  Memref.read_access_unit_zero (Elt F) main_v3 (funext fun a => by fin_cases a <;> rfl) _ _
theorem whole_4 (t : Fin cfg0.N) : iblk m c 4 t = V m c main_arg5 :=
  Memref.read_access_unit_zero (Elt F) main_arg5 (funext fun a => by fin_cases a <;> rfl) _ _
theorem whole_5 (t : Fin cfg0.N) : iblk m c 5 t = V m c main_v4 :=
  Memref.read_access_unit_zero (Elt F) main_v4 (funext fun a => by fin_cases a <;> rfl) _ _
theorem whole_6 (t : Fin cfg0.N) : iblk m c 6 t = V m c main_arg7 :=
  Memref.read_access_unit_zero (Elt F) main_arg7 (funext fun a => by fin_cases a <;> rfl) _ _
theorem whole_7 (t : Fin cfg0.N) : iblk m c 7 t = V m c main_v5 :=
  Memref.read_access_unit_zero (Elt F) main_v5 (funext fun a => by fin_cases a <;> rfl) _ _

/-! ## The result arrays -/

/-- Where the two output windows stand in the second pass: on the chunk of the point. -/
theorem index_8 : ∀ t : Fin cfg0.N, 25 ≤ t.val → win0_8.index t 0 = t.val - 25 ∧ win0_8.index t 1 = 0 :=
  (by decide +kernel : ∀ t : Fin grid0.N, 25 ≤ t.val → win0_8.index t 0 = t.val - 25 ∧ win0_8.index t 1 = 0)
theorem index_9 : ∀ t : Fin cfg0.N, 25 ≤ t.val → win0_9.index t 0 = t.val - 25 ∧ win0_9.index t 1 = 0 :=
  (by decide +kernel : ∀ t : Fin grid0.N, 25 ≤ t.val → win0_9.index t 0 = t.val - 25 ∧ win0_9.index t 1 = 0)

/-- All class scores: row `r` is row `r % 1000` of the chunk that point `25 + r / 1000` leaves. -/
def classScores : Buf (Elt F) ((c : Thread nD τ).loc main_v6_0) :=
  ((fun y => clsBlock m c (pt (25 + (y 0).val / 1000)) (ix2 ⟨(y 0).val % 1000, Nat.mod_lt _ (by decide)⟩ (y 1)) : FVec F S5000x81 .f32))

/-- All box offsets, likewise. -/
def boxOffsets : Buf (Elt F) ((c : Thread nD τ).loc main_v6_1) :=
  ((fun y => boxBlock m c (pt (25 + (y 0).val / 1000)) (ix2 ⟨(y 0).val % 1000, Nat.mod_lt _ (by decide)⟩ (y 1)) : FVec F S5000x324 .f32))

/-- The second-pass point a row is written at. -/
theorem pt_row (t : Fin cfg0.N) (ht : 25 ≤ t.val) (r : ℕ) (hr : r < 1000) :
    pt (25 + ((t.val - 25) * 1000 + r) / 1000) = t ∧ ((t.val - 25) * 1000 + r) % 1000 = r := by
  have h30 := lt30 t
  refine ⟨?_, by omega⟩
  rw [show 25 + ((t.val - 25) * 1000 + r) / 1000 = t.val from by omega]
  exact pt_val t

/-- Where a row of the chunk of class scores stands in the array. -/
theorem emb_8 (t : Fin cfg0.N) (ht : 25 ≤ t.val) (r : Fin 1000) (j : Fin 81) :
    ((cfg0.win 8).blk t).view.emb (ix2 r j)
      = (ix2 ⟨(t.val - 25) * 1000 + r.val, by have := lt30 t; omega⟩ j : S5000x81.Idx) := by
  obtain ⟨h0, h1⟩ := index_8 t ht
  funext a
  apply Fin.ext
  match a with
  | ⟨0, _⟩ => show win0_8.index t 0 * 1000 + 1 * r.val = (t.val - 25) * 1000 + r.val; rw [h0]; omega
  | ⟨1, _⟩ => show win0_8.index t 1 * 81 + 1 * j.val = j.val; rw [h1]; omega

/-- The class scores' array ends holding them. -/
theorem final_8 : (dats m 0 c).arrAt 8 cfg0.N = classScores m c := by
  refine (dats m 0 c).arrAt_eq_of_cover 8 (classScores m c) (fun t hf => ?_) (fun i => ?_)
  · have ht := (flush_8 t).mp hf
    show (cfg0.win 8).cut (grid0.coords t) ((dats m 0 c).after 8 t) = _
    rw [after_8]
    funext y
    obtain ⟨r, j, rfl⟩ : ∃ (r : Fin 1000) (j : Fin 81), y = ix2 r j := ⟨y 0, y 1, eq_ix2 y⟩
    rw [View.read_apply, emb_8 t ht r j]
    obtain ⟨p1, p2⟩ := pt_row t ht r.val r.isLt
    show clsBlock m c t (ix2 r j) = clsBlock m c (pt (25 + ((t.val - 25) * 1000 + r.val) / 1000))
      (ix2 ⟨((t.val - 25) * 1000 + r.val) % 1000, _⟩ j)
    rw [p1]
    congr 2
    exact Fin.ext p2.symm
  · obtain ⟨r, j, rfl⟩ : ∃ (r : Fin 5000) (j : Fin 81), i = (ix2 r j : S5000x81.Idx) := ⟨i 0, i 1, eq_ix2 i⟩
    have ht : (pt (25 + r.val / 1000)).val = 25 + r.val / 1000 := pt_of_lt (by omega)
    refine ⟨pt (25 + r.val / 1000), (flush_8 _).mpr (by omega), ?_⟩
    have e := emb_8 (pt (25 + r.val / 1000)) (by omega) ⟨r.val % 1000, Nat.mod_lt _ (by decide)⟩ j
    rw [show (ix2 r j : S5000x81.Idx) = _ from (congrArg (fun k : Fin 5000 => (ix2 k j : S5000x81.Idx))
      (Fin.ext (by show r.val = ((pt (25 + r.val / 1000)).val - 25) * 1000 + r.val % 1000; omega))).trans e.symm]
    exact View.emb_mem_set _ _

/-- Where a row of the chunk of box offsets stands in the array. -/
theorem emb_9 (t : Fin cfg0.N) (ht : 25 ≤ t.val) (r : Fin 1000) (j : Fin 324) :
    ((cfg0.win 9).blk t).view.emb (ix2 r j)
      = (ix2 ⟨(t.val - 25) * 1000 + r.val, by have := lt30 t; omega⟩ j : S5000x324.Idx) := by
  obtain ⟨h0, h1⟩ := index_9 t ht
  funext a
  apply Fin.ext
  match a with
  | ⟨0, _⟩ => show win0_9.index t 0 * 1000 + 1 * r.val = (t.val - 25) * 1000 + r.val; rw [h0]; omega
  | ⟨1, _⟩ => show win0_9.index t 1 * 324 + 1 * j.val = j.val; rw [h1]; omega

/-- The box offsets' array ends holding them. -/
theorem final_9 : (dats m 0 c).arrAt 9 cfg0.N = boxOffsets m c := by
  refine (dats m 0 c).arrAt_eq_of_cover 9 (boxOffsets m c) (fun t hf => ?_) (fun i => ?_)
  · have ht := (flush_9 t).mp hf
    show (cfg0.win 9).cut (grid0.coords t) ((dats m 0 c).after 9 t) = _
    rw [after_9]
    funext y
    obtain ⟨r, j, rfl⟩ : ∃ (r : Fin 1000) (j : Fin 324), y = ix2 r j := ⟨y 0, y 1, eq_ix2 y⟩
    rw [View.read_apply, emb_9 t ht r j]
    obtain ⟨p1, p2⟩ := pt_row t ht r.val r.isLt
    show boxBlock m c t (ix2 r j) = boxBlock m c (pt (25 + ((t.val - 25) * 1000 + r.val) / 1000))
      (ix2 ⟨((t.val - 25) * 1000 + r.val) % 1000, _⟩ j)
    rw [p1]
    congr 2
    exact Fin.ext p2.symm
  · obtain ⟨r, j, rfl⟩ : ∃ (r : Fin 5000) (j : Fin 324), i = (ix2 r j : S5000x324.Idx) := ⟨i 0, i 1, eq_ix2 i⟩
    have ht : (pt (25 + r.val / 1000)).val = 25 + r.val / 1000 := pt_of_lt (by omega)
    refine ⟨pt (25 + r.val / 1000), (flush_9 _).mpr (by omega), ?_⟩
    have e := emb_9 (pt (25 + r.val / 1000)) (by omega) ⟨r.val % 1000, Nat.mod_lt _ (by decide)⟩ j
    rw [show (ix2 r j : S5000x324.Idx) = _ from (congrArg (fun k : Fin 5000 => (ix2 k j : S5000x324.Idx))
      (Fin.ext (by show r.val = ((pt (25 + r.val / 1000)).val - 25) * 1000 + r.val % 1000; omega))).trans e.symm]
    exact View.emb_mem_set _ _

/-- The hidden layer's rows a second-pass point reads. -/
theorem hidRows_apply (t : Fin cfg0.N) (r : Fin 1000) (j : Fin 1024) :
    hidRows m c t (ix2 r j) = hid m c (ix2 ⟨1000 * (t.val - 25) + r.val, by have := lt30 t; omega⟩ j) := by
  pointwise [hidRows]

end Cert.KernelIdeal.Hand

end
-- ==== Proof.Payloads.lean ====
/- What the kernel's body computes, element by element, on the extended reals. -/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Idealize.ShloMosaic Idealize.SL.Sem
open scoped BigOperators

/-- `inv_hw` is a forty-ninth. -/
theorem inv_hw (w : BitVec (FTy.f32).bits) : Named.named (F := Ideal) (φ := .f32) κ "inv_hw" w = ((1 / 49 : ℝ) : EReal) :=
  IdealRules.named_const.ideal_named_scalar _ _ _ _ rfl

/-- `inv_n` is a five-thousandth. -/
theorem inv_n (w : BitVec (FTy.f32).bits) : Named.named (F := Ideal) (φ := .f32) κ "inv_n" w = ((1 / 5000 : ℝ) : EReal) :=
  IdealRules.named_const.ideal_named_scalar _ _ _ _ rfl

/-- A block of the hidden layer, at an element. -/
theorem block_apply (X : FVec Ideal S49x200x256 .f32) (W : FVec Ideal S1024x256 .f32) (r : Fin 200) (j : Fin 1024) :
    k0_pay1 (F := Ideal) X W (ix2 r j)
      = ∑ k : Fin 256, (∑ p : Fin 49, X (ix3 p r k)) * ((1 / 49 : ℝ) : EReal) * W (ix2 j k) := by
  pointwise [k0_pay1, inv_hw]

/-- A block's column sums. -/
theorem blockSum_apply (X : FVec Ideal S49x200x256 .f32) (W : FVec Ideal S1024x256 .f32) (j : Fin 1024) :
    k0_pay3 (F := Ideal) X W (ix2 0 j) = ∑ r : Fin 200, k0_pay1 (F := Ideal) X W (ix2 r j) := by
  pointwise [k0_pay3]

/-- A block's column sums of squares. -/
theorem blockSquares_apply (X : FVec Ideal S49x200x256 .f32) (W : FVec Ideal S1024x256 .f32) (j : Fin 1024) :
    k0_pay4 (F := Ideal) X W (ix2 0 j)
      = ∑ r : Fin 200, k0_pay1 (F := Ideal) X W (ix2 r j) * k0_pay1 (F := Ideal) X W (ix2 r j) := by
  pointwise [k0_pay4]

/-- The normalised chunk, from the sums, at an element. -/
theorem chunk_apply (s q g be : FVec Ideal S1x1024 .f32) (H : FVec Ideal S1000x1024 .f32) (r : Fin 1000) (j : Fin 1024) :
    k0_pay10 (F := Ideal) s q g be H (ix2 r j)
      = max (H (ix2 r j) * (g (ix2 0 j) * Ideal.rsqrt (q (ix2 0 j) * ((1 / 5000 : ℝ) : EReal)
              - s (ix2 0 j) * ((1 / 5000 : ℝ) : EReal) * (s (ix2 0 j) * ((1 / 5000 : ℝ) : EReal)) + Ideal.ofBits .f32 0x3727C5AC#32))
          + (be (ix2 0 j) - s (ix2 0 j) * ((1 / 5000 : ℝ) : EReal)
            * (g (ix2 0 j) * Ideal.rsqrt (q (ix2 0 j) * ((1 / 5000 : ℝ) : EReal)
              - s (ix2 0 j) * ((1 / 5000 : ℝ) : EReal) * (s (ix2 0 j) * ((1 / 5000 : ℝ) : EReal)) + Ideal.ofBits .f32 0x3727C5AC#32)))) 0 := by
  pointwise [k0_pay10, inv_n]

/-- The class scores of a chunk, at an element. -/
theorem chunkScores_apply (s q g be : FVec Ideal S1x1024 .f32) (H : FVec Ideal S1000x1024 .f32) (w : FVec Ideal S81x1024 .f32)
    (b : FVec Ideal S1x81 .f32) (r : Fin 1000) (j : Fin 81) :
    k0_pay11 (F := Ideal) s q g be H w b (ix2 r j)
      = (∑ k : Fin 1024, k0_pay10 (F := Ideal) s q g be H (ix2 r k) * w (ix2 j k)) + b (ix2 0 j) := by
  pointwise [k0_pay11]

/-- The box offsets of a chunk, at an element. -/
theorem chunkBoxes_apply (Y : FVec Ideal S1000x1024 .f32) (w : FVec Ideal S324x1024 .f32)
    (b : FVec Ideal S1x324 .f32) (r : Fin 1000) (j : Fin 324) :
    k0_pay9 (F := Ideal) Y w b (ix2 r j) = (∑ k : Fin 1024, Y (ix2 r k) * w (ix2 j k)) + b (ix2 0 j) := by
  pointwise [k0_pay9]

end Cert.KernelIdeal.Hand

end
-- ==== Proof.KernelValue.lean ====
/- The idealized kernel's results, element by element, on the extended reals, in terms of the program's arguments. -/
module

public import proofs.«01_k».proof.Proof.Blocks
public import proofs.«01_k».proof.Proof.Payloads
public import Idealize.ShloMosaic.Lib.Pipeline.ValueKit.Acc

@[expose] public section

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen
open scoped BigOperators

variable (m : (ℓ : Loc nD τ sig) → Buf (Elt Ideal) ℓ) (c : Dev nD)

/-! ## The program's arguments -/

/-- The images, as a vector. -/
abbrev images : FVec Ideal S5000x256x7x7 .f32 := m ((c : Thread nD τ).loc main_arg0)

/-- the hidden layer's weights, as a vector. -/
abbrev weights : FVec Ideal S1024x256 .f32 := m ((c : Thread nD τ).loc main_arg1)

/-- the normalisation's gains, as a vector. -/
abbrev gains : FVec Ideal S1024 .f32 := m ((c : Thread nD τ).loc main_arg3)

/-- and shifts, as a vector. -/
abbrev shifts : FVec Ideal S1024 .f32 := m ((c : Thread nD τ).loc main_arg4)

/-- the classes' weights, as a vector. -/
abbrev classWeights : FVec Ideal S81x1024 .f32 := m ((c : Thread nD τ).loc main_arg5)

/-- and biases, as a vector. -/
abbrev classBias : FVec Ideal S81 .f32 := m ((c : Thread nD τ).loc main_arg6)

/-- the boxes' weights, as a vector. -/
abbrev boxWeights : FVec Ideal S324x1024 .f32 := m ((c : Thread nD τ).loc main_arg7)

/-- and biases, as a vector. -/
abbrev boxBias : FVec Ideal S324 .f32 := m ((c : Thread nD τ).loc main_arg8)

/-! ## The hidden layer -/

/-- Row `200 n + r` of the hidden layer is row `r` of block `n`. -/
theorem hid_block (n : Fin 25) (r : Fin 200) (j : Fin 1024) (h : n.val * 200 + r.val < 5000) :
    k0_pay1 (F := Ideal) (xb m c n.val) (wb m c n.val) (ix2 r j) = hid m c (ix2 ⟨n.val * 200 + r.val, h⟩ j) := by
  have e1 : (n.val * 200 + r.val) / 200 = n.val := by omega
  have e2 : (n.val * 200 + r.val) % 200 = r.val := by omega
  have e3 : inBlock (ix2 ⟨n.val * 200 + r.val, h⟩ j) = ix2 r j := by
    funext a
    match a with
    | ⟨0, _⟩ => exact Fin.ext e2
    | ⟨1, _⟩ => rfl
  show _ = k0_pay2 (F := Ideal) (xb m c ((n.val * 200 + r.val) / 200)) (wb m c ((n.val * 200 + r.val) / 200)) (inBlock (ix2 ⟨n.val * 200 + r.val, h⟩ j))
  rw [e3, e1, k0_pay2, shapeCast_self]

/-- The hidden layer at an element: the images' pixels summed and divided by their number, through the weights. -/
theorem hid_apply (r : Fin 5000) (j : Fin 1024) :
    hid m c (ix2 r j) = ∑ k : Fin 256, (∑ p : Fin 7, ∑ q : Fin 7,
        images m c (ix4 r k p q)) * ((1 / 49 : ℝ) : EReal)
      * weights m c (ix2 j k) := by
  have h := hid_block m c ⟨r.val / 200, by omega⟩ ⟨r.val % 200, Nat.mod_lt _ (by decide)⟩ j (by show r.val / 200 * 200 + r.val % 200 < 5000; omega)
  rw [show (⟨r.val / 200 * 200 + r.val % 200, by omega⟩ : Fin 5000) = r from Fin.ext (by show r.val / 200 * 200 + r.val % 200 = r.val; omega)] at h
  rw [← h, block_apply]
  refine Finset.sum_congr rfl fun k _ => ?_
  rw [wb, whole_1, V_main_arg1]
  refine congrArg (· * _) (congrArg (· * _) ?_)
  refine Fin.sum_divmod_congr (A := 7) (S := 7) fun p ha hs => ?_
  rw [images_apply m c (r.val / 200) (by omega), V_images]
  congr 1
  exact congrArg (fun i => ix4 i k _ _) (Fin.ext (by show 200 * (r.val / 200) + r.val % 200 = r.val; omega))

/-! ## The statistics -/

/-- The running sum after block `n`, as a sum over the blocks so far, -/
theorem sum0_apply (j : Fin 1024) : ∀ n : ℕ, sum0 m c n (ix2 0 j)
    = ∑ b ∈ Finset.range (n + 1), ∑ r : Fin 200, k0_pay1 (F := Ideal) (xb m c b) (wb m c b) (ix2 r j)
  | 0 => by
    rw [Finset.sum_range_one, ← blockSum_apply]
    show k0_pay5 (F := Ideal) (xb m c 0) (wb m c 0) (ix2 0 j) = _
    rw [k0_pay5, shapeCast_self]
  | n + 1 => by
    rw [Finset.sum_range_succ, ← sum0_apply j n, ← blockSum_apply]
    show k0_pay7 (F := Ideal) (xb m c (n + 1)) (wb m c (n + 1)) (sum0 m c n) (ix2 0 j) = _
    rw [k0_pay7, shapeCast_self]
    rfl

/-- and the running sum of squares. -/
theorem sum1_apply (j : Fin 1024) : ∀ n : ℕ, sum1 m c n (ix2 0 j)
    = ∑ b ∈ Finset.range (n + 1), ∑ r : Fin 200,
        k0_pay1 (F := Ideal) (xb m c b) (wb m c b) (ix2 r j) * k0_pay1 (F := Ideal) (xb m c b) (wb m c b) (ix2 r j)
  | 0 => by
    rw [Finset.sum_range_one, ← blockSquares_apply]
    show k0_pay6 (F := Ideal) (xb m c 0) (wb m c 0) (ix2 0 j) = _
    rw [k0_pay6, shapeCast_self]
  | n + 1 => by
    rw [Finset.sum_range_succ, ← sum1_apply j n, ← blockSquares_apply]
    show k0_pay8 (F := Ideal) (xb m c (n + 1)) (wb m c (n + 1)) (sum1 m c n) (ix2 0 j) = _
    rw [k0_pay8, shapeCast_self]
    rfl

/-- After the last block it is the sum of the column, -/
theorem sum0_last (j : Fin 1024) : sum0 m c 24 (ix2 0 j) = ∑ r : Fin 5000, hid m c (ix2 r j) := by
  rw [sum0_apply, ← Fin.sum_univ_eq_sum_range (fun b => ∑ r : Fin 200, k0_pay1 (F := Ideal) (xb m c b) (wb m c b) (ix2 r j)) 25]
  exact Fin.sum_mul_add_congr (fun b r h => hid_block m c b r j h)

/-- and the sum of its squares. -/
theorem sum1_last (j : Fin 1024) : sum1 m c 24 (ix2 0 j) = ∑ r : Fin 5000, hid m c (ix2 r j) * hid m c (ix2 r j) := by
  rw [sum1_apply, ← Fin.sum_univ_eq_sum_range (fun b => ∑ r : Fin 200,
    k0_pay1 (F := Ideal) (xb m c b) (wb m c b) (ix2 r j) * k0_pay1 (F := Ideal) (xb m c b) (wb m c b) (ix2 r j)) 25]
  exact Fin.sum_mul_add_congr (f := fun r => hid m c (ix2 r j) * hid m c (ix2 r j)) (fun b r h => by rw [hid_block m c b r j h])

/-! ## The normalised layer and the results -/

/-- What the normalisation multiplies a column `h` by: its gain over its deviation, -/
def scale (h : Fin 5000 → EReal) (g : EReal) : EReal :=
  g * Ideal.rsqrt ((∑ s, h s * h s) * ((1 / 5000 : ℝ) : EReal)
    - (∑ s, h s) * ((1 / 5000 : ℝ) : EReal) * ((∑ s, h s) * ((1 / 5000 : ℝ) : EReal)) + Ideal.ofBits .f32 0x3727C5AC#32)

/-- and one element of the normalised layer: the hidden layer's, scaled and shifted by what its column's statistics give. -/
def act (r : Fin 5000) (j : Fin 1024) : EReal :=
  max (hid m c (ix2 r j) * scale (fun s => hid m c (ix2 s j)) (gains m c (ix1 j))
    + (shifts m c (ix1 j) - (∑ s : Fin 5000, hid m c (ix2 s j)) * ((1 / 5000 : ℝ) : EReal)
      * scale (fun s => hid m c (ix2 s j)) (gains m c (ix1 j)))) 0

/-- The chunk second-pass point `25 + r / 1000` normalises holds row `r` at `r % 1000`. -/
theorem chunk_row (r : Fin 5000) (j : Fin 1024) :
    k0_pay10 (F := Ideal) (sum0 m c 24) (sum1 m c 24) (iblk m c 2 (pt (25 + r.val / 1000))) (iblk m c 3 (pt (25 + r.val / 1000)))
      (hidRows m c (pt (25 + r.val / 1000))) (ix2 ⟨r.val % 1000, Nat.mod_lt _ (by decide)⟩ j) = act m c r j := by
  have ht : (pt (25 + r.val / 1000)).val = 25 + r.val / 1000 := pt_of_lt (by omega)
  rw [chunk_apply, sum0_last, sum1_last, whole_2, whole_3, V_scales, V_offsets, hidRows_apply]
  have er : (⟨1000 * ((pt (25 + r.val / 1000)).val - 25) + r.val % 1000, by omega⟩ : Fin 5000) = r :=
    Fin.ext (by show 1000 * ((pt (25 + r.val / 1000)).val - 25) + r.val % 1000 = r.val; omega)
  rw [er]
  rfl

/-- The kernel's class scores at an element. -/
theorem classScores_apply (r : Fin 5000) (j : Fin 81) : (classScores m c : FVec Ideal S5000x81 .f32) (ix2 r j)
    = (∑ k : Fin 1024, act m c r k * classWeights m c (ix2 j k))
      + classBias m c (ix1 j) := by
  show clsBlock m c (pt (25 + r.val / 1000)) (ix2 ⟨r.val % 1000, _⟩ j) = _
  rw [clsBlock]
  rw [chunkScores_apply]
  simp only [chunk_row]
  rw [whole_4, whole_5, V_classBias, V_main_arg5]

/-- The kernel's box offsets at an element. -/
theorem boxOffsets_apply (r : Fin 5000) (j : Fin 324) : (boxOffsets m c : FVec Ideal S5000x324 .f32) (ix2 r j)
    = (∑ k : Fin 1024, act m c r k * boxWeights m c (ix2 j k))
      + boxBias m c (ix1 j) := by
  show boxBlock m c (pt (25 + r.val / 1000)) (ix2 ⟨r.val % 1000, _⟩ j) = _
  rw [boxBlock]
  rw [chunkBoxes_apply]
  simp only [chunk_row]
  rw [whole_6, whole_7, V_boxBias, V_main_arg7]

end Cert.KernelIdeal.Hand

end
-- ==== Proof.Reference.lean ====
/- The reference's two results, element by element, on the extended reals. -/
module

public import proofs.«01_k».proof.Proof.Gen.ReferenceIdeal.Run
public import proofs.«01_k».proof.Proof.Consts
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open scoped BigOperators

/-- The hidden layer: the pooled images through the first linear layer. -/
def hidden (x : FVec Ideal S5000x256x7x7 .f32) (w : FVec Ideal S1024x256 .f32) (b : FVec Ideal S1024 .f32) :
    FVec Ideal S5000x1024 .f32 :=
  addf (Host.dotGeneral dot_S5000x256_S256x1024_S5000x1024_1_0_0_1_n_n none
      (Host.divf (Host.reduceAdd x (constant S_ .f32 0x00000000#32) reducesTo_S5000x256x7x7_S5000x256_d2_3 h_S_)
        (broadcastInDim S5000x256 ![] bcast_S_S5000x256 (constant S_ .f32 0x42440000#32)))
      (transpose S256x1024 [1, 0] w transposes_S1024x256_S256x1024_1_0))
    (broadcastInDim S5000x1024 ![0, 1] bcast_S1x1024_S5000x1024_0_1 (broadcastInDim S1x1024 ![1] bcast_S1024_S1x1024_1 b))

/-- The column sums of the hidden layer. -/
def colSum (h : FVec Ideal S5000x1024 .f32) : FVec Ideal S1024 .f32 :=
  Host.reduceAdd h (constant S_ .f32 0x00000000#32) reducesTo_S5000x1024_S1024_d0 h_S_

/-- Its column means. -/
def mean (h : FVec Ideal S5000x1024 .f32) : FVec Ideal S1024 .f32 :=
  Host.divf (colSum h) (broadcastInDim S1024 ![] bcast_S_S1024 (constant S_ .f32 0x459C4000#32))

/-- Each element's distance from its column's mean, as the variance takes it. -/
def spread (h : FVec Ideal S5000x1024 .f32) : FVec Ideal S5000x1024 .f32 :=
  subf h (broadcastInDim S5000x1024 ![0, 1] bcast_S1x1024_S5000x1024_0_1
    (Host.divf (broadcastInDim S1x1024 ![1] bcast_S1024_S1x1024_1 (colSum h))
      (broadcastInDim S1x1024 ![] bcast_S_S1x1024 (constant S_ .f32 0x459C4000#32))))

/-- How many rows the variance divides by: all of them, less none. -/
def count : FVec Ideal S_ .f32 := subf (constant S_ .f32 0x459C4000#32) (sitofp .f32 (constantI S_ 32 0#32))

/-- The column variances. -/
def variance (h : FVec Ideal S5000x1024 .f32) : FVec Ideal S1024 .f32 :=
  select (broadcastInDim S1024 ![] bcast_S_S1024 (cmpf .ogt count (constant S_ .f32 0x00000000#32)))
    (Host.divf (colSum (mulf (spread h) (spread h))) (broadcastInDim S1024 ![] bcast_S_S1024 count))
    (broadcastInDim S1024 ![] bcast_S_S1024 (id (constant S_ .f32 0x7FC00000#32)))

/-- The hidden layer normalised over its rows, scaled, shifted and cut off at zero. -/
def normed (h : FVec Ideal S5000x1024 .f32) (g be : FVec Ideal S1024 .f32) : FVec Ideal S5000x1024 .f32 :=
  maximumf (addf (mulf (Host.divf
        (subf h (broadcastInDim S5000x1024 ![0, 1] bcast_S1x1024_S5000x1024_0_1 (broadcastInDim S1x1024 ![1] bcast_S1024_S1x1024_1 (mean h))))
        (broadcastInDim S5000x1024 ![0, 1] bcast_S1x1024_S5000x1024_0_1 (broadcastInDim S1x1024 ![1] bcast_S1024_S1x1024_1
          (Host.sqrt (addf (variance h) (broadcastInDim S1024 ![] bcast_S_S1024 (constant S_ .f32 0x3727C5AC#32)))))))
      (broadcastInDim S5000x1024 ![0, 1] bcast_S1x1024_S5000x1024_0_1 (broadcastInDim S1x1024 ![1] bcast_S1024_S1x1024_1 g)))
    (broadcastInDim S5000x1024 ![0, 1] bcast_S1x1024_S5000x1024_0_1 (broadcastInDim S1x1024 ![1] bcast_S1024_S1x1024_1 be)))
    (broadcastInDim S5000x1024 ![] bcast_S_S5000x1024 (constant S_ .f32 0x00000000#32))

/-- The class scores of the normalised layer. -/
def scores (y : FVec Ideal S5000x1024 .f32) (w : FVec Ideal S81x1024 .f32) (b : FVec Ideal S81 .f32) : FVec Ideal S5000x81 .f32 :=
  addf (Host.dotGeneral dot_S5000x1024_S1024x81_S5000x81_1_0_0_1_n_n none y
      (transpose S1024x81 [1, 0] w transposes_S81x1024_S1024x81_1_0))
    (broadcastInDim S5000x81 ![0, 1] bcast_S1x81_S5000x81_0_1 (broadcastInDim S1x81 ![1] bcast_S81_S1x81_1 b))

/-- The box offsets of the normalised layer. -/
def boxes (y : FVec Ideal S5000x1024 .f32) (w : FVec Ideal S324x1024 .f32) (b : FVec Ideal S324 .f32) : FVec Ideal S5000x324 .f32 :=
  addf (Host.dotGeneral dot_S5000x1024_S1024x324_S5000x324_1_0_0_1_n_n none y
      (transpose S1024x324 [1, 0] w transposes_S324x1024_S1024x324_1_0))
    (broadcastInDim S5000x324 ![0, 1] bcast_S1x324_S5000x324_0_1 (broadcastInDim S1x324 ![1] bcast_S324_S1x324_1 b))

variable (m : (ℓ : Loc nD τ sig) → Buf (Elt Ideal) ℓ) (c : Dev nD)

/-- The normalised layer of the arguments in memory. -/
def layer : FVec Ideal S5000x1024 .f32 :=
  normed (hidden (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4))

/-- The reference's first result is the class scores, -/
theorem res_scores : Value.res_main_v32 (F := Ideal) m c
    = scores (layer m c) (m ((c.tc : Thread nD τ).loc main_arg5)) (m ((c.tc : Thread nD τ).loc main_arg6)) := rfl

/-- its second the box offsets. -/
theorem res_boxes : Value.res_main_v37 (F := Ideal) m c
    = boxes (layer m c) (m ((c.tc : Thread nD τ).loc main_arg7)) (m ((c.tc : Thread nD τ).loc main_arg8)) := rfl

/-- The hidden layer at an element. -/
theorem hidden_apply (x : FVec Ideal S5000x256x7x7 .f32) (w : FVec Ideal S1024x256 .f32) (b : FVec Ideal S1024 .f32)
    (r : Fin 5000) (j : Fin 1024) :
    hidden x w b (ix2 r j)
      = (∑ k : Fin 256, Ideal.div (∑ p : Fin 7, ∑ q : Fin 7, x (ix4 r k p q)) ((49 : ℝ) : EReal) * w (ix2 j k))
        + b (ix1 j) := by
  pointwise [hidden, Cert.Consts.pixels]

/-- A column's sum. -/
theorem colSum_apply (h : FVec Ideal S5000x1024 .f32) (j : Fin 1024) : colSum h (ix1 j) = ∑ r : Fin 5000, h (ix2 r j) := by
  pointwise [colSum]

/-- The normalised layer at an element. -/
theorem normed_apply (h : FVec Ideal S5000x1024 .f32) (g be : FVec Ideal S1024 .f32) (r : Fin 5000) (j : Fin 1024) :
    normed h g be (ix2 r j)
      = max (Ideal.div (h (ix2 r j) - Ideal.div (∑ s : Fin 5000, h (ix2 s j)) ((5000 : ℝ) : EReal))
            (Ideal.sqrt (variance h (ix1 j) + Ideal.ofBits .f32 0x3727C5AC#32)) * g (ix1 j) + be (ix1 j)) 0 := by
  pointwise [normed, mean, colSum, Cert.Consts.rows]

/-- The class scores at an element. -/
theorem scores_apply (y : FVec Ideal S5000x1024 .f32) (w : FVec Ideal S81x1024 .f32) (b : FVec Ideal S81 .f32)
    (r : Fin 5000) (j : Fin 81) : scores y w b (ix2 r j) = (∑ k : Fin 1024, y (ix2 r k) * w (ix2 j k)) + b (ix1 j) := by
  pointwise [scores]

/-- The box offsets at an element. -/
theorem boxes_apply (y : FVec Ideal S5000x1024 .f32) (w : FVec Ideal S324x1024 .f32) (b : FVec Ideal S324 .f32)
    (r : Fin 5000) (j : Fin 324) : boxes y w b (ix2 r j) = (∑ k : Fin 1024, y (ix2 r k) * w (ix2 j k)) + b (ix1 j) := by
  pointwise [boxes]

/-- A column's variance: the count of rows is positive, so the quotient is taken. -/
theorem variance_apply (h : FVec Ideal S5000x1024 .f32) (j : Fin 1024) :
    variance h (ix1 j)
      = Ideal.div (∑ r : Fin 5000, (h (ix2 r j) - Ideal.div (∑ s : Fin 5000, h (ix2 s j)) ((5000 : ℝ) : EReal))
          * (h (ix2 r j) - Ideal.div (∑ s : Fin 5000, h (ix2 s j)) ((5000 : ℝ) : EReal))) ((5000 : ℝ) : EReal) := by
  have hn : FloatOps.sitofp (F := Ideal) FTy.f32 0#32 = (0 : EReal) := by
    show (((0#32 : BitVec 32).toInt : ℝ) : EReal) = 0
    norm_num
  pointwise [variance, spread, colSum, count]
  simp only [hn, sub_zero, Cert.Consts.rows]
  rw [if_pos (by exact_mod_cast (by norm_num : (0 : ℝ) < 5000))]

end Cert.ReferenceIdeal.Hand

end
-- ==== Proof.Algebra.lean ====
/- Normalising a column from its sum and its sum of squares, and normalising it from its mean and the mean of the squared
   distances, agree on the extended reals wherever the column is finite. -/
module

public import Idealize.ShloMosaic.PureOps.Ideal
public import Idealize.ShloMosaic.PureOps.Ideal.Laws
public import Mathlib.Data.EReal.Operations
public import Mathlib.Algebra.BigOperators.Field
public import Mathlib.Algebra.Order.BigOperators.Ring.Finset
public import Mathlib.Tactic.FieldSimp
public import Mathlib.Tactic.Ring
public import Mathlib.Tactic.Linarith
public import Mathlib.Tactic.Positivity

@[expose] public section

noncomputable section

namespace Cert.Algebra

open Idealize.ShloMosaic
open scoped BigOperators

/-- A finite sum of reals is the same sum of extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

variable (h : Fin 5000 → ℝ)

/-- The mean of a column and a constant is the column's mean and the constant. -/
theorem mean_shift (b : ℝ) : (∑ s, (h s + b)) * (1 / 5000) = (∑ s, h s) * (1 / 5000) + b := by
  rw [Finset.sum_add_distrib, Finset.sum_const, Finset.card_univ, Fintype.card_fin, nsmul_eq_mul]
  push_cast; ring

/-- The mean of the squared distances from the mean is the mean of the squares less the square of the mean. -/
theorem variance_eq (b : ℝ) :
    (∑ s, (h s + b - (∑ u, (h u + b)) * (1 / 5000)) * (h s + b - (∑ u, (h u + b)) * (1 / 5000))) * (1 / 5000)
      = (∑ s, h s * h s) * (1 / 5000) - (∑ s, h s) * (1 / 5000) * ((∑ s, h s) * (1 / 5000)) := by
  rw [mean_shift]
  generalize hM : (∑ s, h s) * (1 / 5000) = M
  have hS : ∑ s, h s = 5000 * M := by rw [← hM]; ring
  have e : ∀ s, (h s + b - (M + b)) * (h s + b - (M + b)) = h s * h s - 2 * M * h s + M * M := fun s => by ring
  simp only [e]
  rw [Finset.sum_add_distrib, Finset.sum_sub_distrib, ← Finset.mul_sum, hS, Finset.sum_const, Finset.card_univ,
    Fintype.card_fin, nsmul_eq_mul]
  push_cast; ring

/-- So that difference is never negative. -/
theorem variance_nonneg : 0 ≤ (∑ s, h s * h s) * (1 / 5000) - (∑ s, h s) * (1 / 5000) * ((∑ s, h s) * (1 / 5000)) := by
  rw [← variance_eq h 0]
  exact mul_nonneg (Finset.sum_nonneg fun s _ => mul_self_nonneg _) (by norm_num)

/-- One element of a column `h`, shifted by `b`, normalised with scale `g` and offset `be`: from the mean and the mean of
    the squared distances, and from the unshifted column's sum and sum of squares. -/
theorem normalise (b g e : ℝ) (he : 0 < e) (be : EReal) (r : Fin 5000) :
    Ideal.div ((h r : EReal) + b - Ideal.div (∑ s, ((h s : EReal) + b)) ((5000 : ℝ) : EReal))
        (Ideal.sqrt (Ideal.div (∑ s, ((h s : EReal) + b - Ideal.div (∑ s, ((h s : EReal) + b)) ((5000 : ℝ) : EReal))
          * ((h s : EReal) + b - Ideal.div (∑ s, ((h s : EReal) + b)) ((5000 : ℝ) : EReal))) ((5000 : ℝ) : EReal) + e)) * g + be
      = h r * (g * Ideal.rsqrt ((∑ s, (h s : EReal) * h s) * ((1 / 5000 : ℝ) : EReal)
              - (∑ s, (h s : EReal)) * ((1 / 5000 : ℝ) : EReal) * ((∑ s, (h s : EReal)) * ((1 / 5000 : ℝ) : EReal)) + e))
          + (be - (∑ s, (h s : EReal)) * ((1 / 5000 : ℝ) : EReal)
            * (g * Ideal.rsqrt ((∑ s, (h s : EReal) * h s) * ((1 / 5000 : ℝ) : EReal)
              - (∑ s, (h s : EReal)) * ((1 / 5000 : ℝ) : EReal) * ((∑ s, (h s : EReal)) * ((1 / 5000 : ℝ) : EReal)) + e))) := by
  have h5 : (5000 : ℝ) ≠ 0 := by norm_num
  simp only [Ideal.div_coe h5, ← EReal.coe_add, ← EReal.coe_mul, ← EReal.coe_sub, sum_coe]
  rw [variance_eq, mean_shift]
  have hv := variance_nonneg h
  generalize (∑ s, h s * h s) * (1 / 5000) - (∑ s, h s) * (1 / 5000) * ((∑ s, h s) * (1 / 5000)) = v at hv ⊢
  generalize (∑ s, h s) * (1 / 5000) = M
  have hp : 0 < v + e := by linarith
  have hs : Real.sqrt (v + e) ≠ 0 := (Real.sqrt_pos.mpr hp).ne'
  rw [Ideal.sqrt_coe, Ideal.rsqrt_coe, if_neg hp.le.not_gt, if_neg hp.le.not_gt, if_neg hp.ne', Ideal.div_coe hs]
  simp only [← EReal.coe_add, ← EReal.coe_mul, ← EReal.coe_sub]
  rw [sub_eq_add_neg be, ← EReal.coe_neg, add_comm be, ← add_assoc, ← EReal.coe_add]
  congr 2
  rw [one_div]; ring

end Cert.Algebra

end
-- ==== Proof.Equal.lean ====
/- The idealized kernel and the reference agree: on finite arguments both results are equal at every element. -/
module

public import proofs.«01_k».proof.Proof.Finite
public import proofs.«01_k».proof.Proof.KernelValue
public import proofs.«01_k».proof.Proof.Reference
public import proofs.«01_k».proof.Proof.Algebra

@[expose] public section

set_option maxRecDepth 16384

noncomputable section

namespace Cert.Proof

open Idealize.ShloMosaic Idealize.ShloMosaic.TcCoe Idealize.SL.Sem
open Cert.KernelIdeal (nD τ)
open Cert.KernelIdeal.Hand (hid act images weights gains shifts classWeights classBias boxWeights boxBias classScores boxOffsets)
open scoped BigOperators

variable (m : (ℓ : Loc Cert.KernelIdeal.nD Cert.KernelIdeal.τ Cert.KernelIdeal.sig) → Buf (Elt Ideal) ℓ) (c : Dev nD)

/-- The first layer's biases, which the kernel takes and leaves unread. -/
abbrev biases : FVec Ideal Cert.KernelIdeal.S1024 .f32 := m ((c : Thread nD τ).loc Cert.KernelIdeal.main_arg2)

/-- The reference's hidden layer is the kernel's with the bias added. -/
theorem hidden_eq (r : Fin 5000) (j : Fin 1024) : Cert.ReferenceIdeal.Hand.hidden (images m c) (weights m c) (biases m c) (ix2 r j)
    = hid m c (ix2 r j) + biases m c (ix1 j) := by
  rw [Cert.ReferenceIdeal.Hand.hidden_apply, Cert.KernelIdeal.Hand.hid_apply]
  simp only [Ideal.div_coe (show (49 : ℝ) ≠ 0 by norm_num)]

variable {m}

/-- On finite arguments the hidden layer's elements are reals. -/
theorem hid_real (hx : ∀ i, ∃ r : ℝ, images m c i = (r : EReal)) (hw : ∀ i, ∃ r : ℝ, weights m c i = (r : EReal))
    (r : Fin 5000) (j : Fin 1024) : ∃ h : ℝ, hid m c (ix2 r j) = (h : EReal) := by
  choose x hx using hx
  choose w hw using hw
  rw [Cert.KernelIdeal.Hand.hid_apply]
  refine ⟨∑ k : Fin 256, (∑ p : Fin 7, ∑ q : Fin 7, x (ix4 r k p q)) * (1 / 49) * w (ix2 j k), ?_⟩
  simp only [← Cert.Algebra.sum_coe, EReal.coe_mul, ← hx, ← hw]

/-- On finite arguments the kernel's normalised layer is the reference's. -/
theorem act_eq (hx : ∀ i, ∃ r : ℝ, images m c i = (r : EReal)) (hw : ∀ i, ∃ r : ℝ, weights m c i = (r : EReal))
    (hb : ∀ i, ∃ r : ℝ, biases m c i = (r : EReal)) (hg : ∀ i, ∃ r : ℝ, gains m c i = (r : EReal)) (r : Fin 5000) (j : Fin 1024) :
    act m c r j = Cert.ReferenceIdeal.Hand.normed (Cert.ReferenceIdeal.Hand.hidden (images m c) (weights m c) (biases m c))
      (gains m c) (shifts m c) (ix2 r j) := by
  choose h hh using hid_real c hx hw
  obtain ⟨b, hb⟩ := hb (ix1 j)
  obtain ⟨g, hg⟩ := hg (ix1 j)
  obtain ⟨e, he, hee⟩ := Cert.Consts.eps
  rw [Cert.ReferenceIdeal.Hand.normed_apply, Cert.ReferenceIdeal.Hand.variance_apply, act, Cert.KernelIdeal.Hand.scale]
  simp only [hidden_eq, hb, hg, hee, hh]
  rw [Cert.Algebra.normalise (fun s => h s j) b g e he]

/-- So are its class scores -/
theorem scores_eq (hact : ∀ r j, act m c r j = Cert.ReferenceIdeal.Hand.normed
      (Cert.ReferenceIdeal.Hand.hidden (images m c) (weights m c) (biases m c)) (gains m c) (shifts m c) (ix2 r j)) :
    Cert.ReferenceIdeal.Hand.scores (Cert.ReferenceIdeal.Hand.normed
      (Cert.ReferenceIdeal.Hand.hidden (images m c) (weights m c) (biases m c)) (gains m c) (shifts m c))
      (classWeights m c) (classBias m c) = classScores m c := by
  funext i
  obtain ⟨r, j, rfl⟩ : ∃ r j, i = ix2 r j := ⟨i 0, i 1, eq_ix2 i⟩
  refine (Cert.ReferenceIdeal.Hand.scores_apply _ _ _ _ _).trans (Eq.trans ?_ (Cert.KernelIdeal.Hand.classScores_apply m c _ _).symm)
  simp only [hact]

/-- and its box offsets. -/
theorem boxes_eq (hact : ∀ r j, act m c r j = Cert.ReferenceIdeal.Hand.normed
      (Cert.ReferenceIdeal.Hand.hidden (images m c) (weights m c) (biases m c)) (gains m c) (shifts m c) (ix2 r j)) :
    Cert.ReferenceIdeal.Hand.boxes (Cert.ReferenceIdeal.Hand.normed
      (Cert.ReferenceIdeal.Hand.hidden (images m c) (weights m c) (biases m c)) (gains m c) (shifts m c))
      (boxWeights m c) (boxBias m c) = boxOffsets m c := by
  funext i
  obtain ⟨r, j, rfl⟩ : ∃ r j, i = ix2 r j := ⟨i 0, i 1, eq_ix2 i⟩
  refine (Cert.ReferenceIdeal.Hand.boxes_apply _ _ _ _ _).trans (Eq.trans ?_ (Cert.KernelIdeal.Hand.boxOffsets_apply m c _ _).symm)
  simp only [hact]

/-- The kernel's runs end with the class scores and the box offsets in its results, and its arguments unchanged; the
    reference's, started on the same finite arguments, with the same values. -/
theorem algebraic : Cert.algebraic_KernelIdeal_ReferenceIdeal_pre_finite := by
  intro m g m' g' hpre hargs
  refine ⟨fun c => classScores m c, fun c => boxOffsets m c, ?_, ?_⟩
  · refine (θ_run Cert.KernelIdeal.defs _ _).mono (fun r h c => ?_)
      (θ_run_and (Cert.KernelIdeal.Hand.run_main m g) (Cert.KernelIdeal.Hand.frame m g))
    exact ⟨((h.1.1 c).1 8).trans (Cert.KernelIdeal.Hand.final_8 m c), ((h.1.1 c).1 9).trans (Cert.KernelIdeal.Hand.final_9 m c), h.2.1 c⟩
  · refine (θ_run Cert.ReferenceIdeal.defs _ _).mono (fun r h c => ?_) (Cert.ReferenceIdeal.Value.run (F := Ideal) m' g')
    obtain ⟨h0, h1, ha⟩ := h c
    obtain ⟨hx, hw, hb, hg⟩ := finite_elements _ _ _ _ _ _ _ _ _ (hpre c)
    have hact := act_eq (m := m) c hx hw hb hg
    obtain ⟨a0, a1, a2, a3, a4, a5, a6, a7, a8⟩ := hargs c
    refine ⟨h0.trans ((Cert.ReferenceIdeal.Hand.res_scores m' c).trans ?_), h1.trans ((Cert.ReferenceIdeal.Hand.res_boxes m' c).trans ?_), ha⟩
    · rw [Cert.ReferenceIdeal.Hand.layer, a0, a1, a2, a3, a4, a5, a6]
      exact scores_eq c hact
    · rw [Cert.ReferenceIdeal.Hand.layer, a0, a1, a2, a3, a4, a7, a8]
      exact boxes_eq c hact

end Cert.Proof

end
-- ==== Proof.lean ====
/- The certificate's claim, put together from the modules under `Proof/`. -/
module

public import proofs.«01_k».proof.Defs
public import proofs.«01_k».proof.Proof.Equal

@[expose] public section

noncomputable section

namespace Cert.Proof

/-- The kernel and its idealization run with their arguments unchanged, so does the reference, the named constants are
    what they stand for, and on finite arguments the idealized kernel's two results are the reference's. -/
theorem claim : Cert.Claim :=
  ⟨Cert.Kernel.Gen.facts, Cert.KernelIdeal.Gen.facts, Cert.ReferenceIdeal.Gen.facts, preFacts, frame_kernel, frame_ideal,
    frame_ideal_finite, frame_reference, frame_reference_finite, preserves, algebraic⟩

end Cert.Proof

end
